-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_rays_start_finite_radii_spread [hPre_rays_start_finite_radii_spread : Cert.Pre_rays_start_finite_radii_spread.Facts] (m : (ℓ : Loc Cert.KernelIdeal.nD Cert.KernelIdeal.τ Cert.KernelIdeal.sig) → Buf (Elt Ideal) ℓ) : Prop :=
  ∀ c : Dev Cert.KernelIdeal.nD,
    (Cert.Pre_rays_start_finite_radii_spread.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_rays_start_finite_radii_spread.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.1 = (fun _ => 1#1)
    ∧ (Cert.Pre_rays_start_finite_radii_spread.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rays_start_finite_radii_spread [hPre_rays_start_finite_radii_spread : Cert.Pre_rays_start_finite_radii_spread.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rays_start_finite_radii_spread.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_rays_start_finite_radii_spread.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.1 = (fun _ => 1#1)
    ∧ (Cert.Pre_rays_start_finite_radii_spread.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rays_start_finite_radii_spread [hKernelIdeal : Cert.KernelIdeal.Facts] [hPre_rays_start_finite_radii_spread : Cert.Pre_rays_start_finite_radii_spread.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rays_start_finite_radii_spread m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rays_start_finite_radii_spread [hReferenceIdeal : Cert.ReferenceIdeal.Facts] [hPre_rays_start_finite_radii_spread : Cert.Pre_rays_start_finite_radii_spread.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rays_start_finite_radii_spread m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_rays_start_finite_radii_spread [hKernelIdeal : Cert.KernelIdeal.Facts] [hReferenceIdeal : Cert.ReferenceIdeal.Facts] [hPre_rays_start_finite_radii_spread : Cert.Pre_rays_start_finite_radii_spread.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rays_start_finite_radii_spread m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_v38) = v2 c
          ∧ r.2.mem ((c.tc : Thread Cert.ReferenceIdeal.nD Cert.ReferenceIdeal.τ).loc Cert.ReferenceIdeal.main_v60) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_rays_start_finite_radii_spread : Cert.Pre_rays_start_finite_radii_spread.Facts),
    quiescent_Kernel (hKernel := hKernel)
    ∧ quiescent_KernelIdeal (hKernelIdeal := hKernelIdeal)
    ∧ quiescent_KernelIdeal_pre_rays_start_finite_radii_spread (hKernelIdeal := hKernelIdeal) (hPre_rays_start_finite_radii_spread := hPre_rays_start_finite_radii_spread)
    ∧ quiescent_ReferenceIdeal (hReferenceIdeal := hReferenceIdeal)
    ∧ quiescent_ReferenceIdeal_pre_rays_start_finite_radii_spread (hReferenceIdeal := hReferenceIdeal) (hPre_rays_start_finite_radii_spread := hPre_rays_start_finite_radii_spread)
    ∧ preserves_Kernel_KernelIdeal
    ∧ algebraic_KernelIdeal_ReferenceIdeal_pre_rays_start_finite_radii_spread (hKernelIdeal := hKernelIdeal) (hReferenceIdeal := hReferenceIdeal) (hPre_rays_start_finite_radii_spread := hPre_rays_start_finite_radii_spread)
-- ==== Pre_rays_start_finite_radii_spread.lean ====
abbrev S65536x6 : Shape := ⟨2, ![65536, 6]⟩
abbrev S128 : Shape := ⟨1, ![128]⟩
abbrev S65536x3 : Shape := ⟨2, ![65536, 3]⟩
abbrev S_ : Shape := ⟨0, ![]⟩
abbrev S127 : Shape := ⟨1, ![127]⟩
abbrev S1 : Shape := ⟨1, ![1]⟩

class Facts : Prop where
  slices_S65536x6_S65536x3_0_0 : S65536x6.Slices ![0, 0] S65536x3
  bcast_S_S65536x3 : S_.BroadcastsInDim S65536x3 (![] : Fin 0 → Fin S65536x3.rank)
  slices_S128_S127_0 : S128.Slices ![0] S127
  slices_S128_S127_1 : S128.Slices ![1] S127
  slices_S128_S1_1 : S128.Slices ![1] S1
  bcast_S_S1 : S_.BroadcastsInDim S1 (![] : Fin 0 → Fin S1.rank)

variable [Facts]

def fn {F : FTy → Type} [FloatOps F] (main_arg0 : FVec F S65536x6 .f32) (main_arg1 : FVec F S128 .f32) : IVec S65536x3 1 × IVec S127 1 × IVec S1 1 :=
  let main_v0 : FVec F S128 .f32 := Host.absf main_arg1
  let main_v1 : FVec F S65536x3 .f32 := (extractStridedSlice S65536x3 ![0, 0] · slices_S65536x6_S65536x3_0_0) main_arg0
  let main_v2 : FVec F S65536x3 .f32 := Host.absf main_v1
  let main_cst : FVec F S_ .f32 := constant S_ .f32 0x7F800000#32
  let main_v3 : FVec F S65536x3 .f32 := broadcastInDim S65536x3 ![] bcast_S_S65536x3 main_cst
  let main_v4 : IVec S65536x3 1 := cmpf .olt main_v2 main_v3
  let main_v5 : FVec F S127 .f32 := (extractStridedSlice S127 ![0] · slices_S128_S127_0) main_v0
  let main_v6 : FVec F S127 .f32 := (extractStridedSlice S127 ![1] · slices_S128_S127_1) main_v0
  let main_v7 : IVec S127 1 := cmpf .ole main_v5 main_v6
  let main_v8 : FVec F S1 .f32 := (extractStridedSlice S1 ![1] · slices_S128_S1_1) main_arg1
  let main_cst_0 : FVec F S_ .f32 := constant S_ .f32 0x00000000#32
  let main_v9 : FVec F S1 .f32 := broadcastInDim S1 ![] bcast_S_S1 main_cst_0
  let main_v10 : IVec S1 1 := cmpf .une main_v8 main_v9
  (main_v4, main_v7, main_v10)
-- ==== Kernel.lean ====
abbrev S65536x6 : Shape := ⟨2, ![65536, 6]⟩
abbrev S128 : Shape := ⟨1, ![128]⟩
abbrev S1x128 : Shape := ⟨2, ![1, 128]⟩
abbrev S6x65536 : Shape := ⟨2, ![6, 65536]⟩
abbrev S8x65536 : Shape := ⟨2, ![8, 65536]⟩
abbrev S65536x128 : Shape := ⟨2, ![65536, 128]⟩
abbrev S_ : Shape := ⟨0, ![]⟩
abbrev S65536x8 : Shape := ⟨2, ![65536, 8]⟩
abbrev S65536x7 : Shape := ⟨2, ![65536, 7]⟩
abbrev S65536x1x7 : Shape := ⟨3, ![65536, 1, 7]⟩
abbrev S65536x128x7 : Shape := ⟨3, ![65536, 128, 7]⟩
abbrev S6x4096 : Shape := ⟨2, ![6, 4096]⟩
abbrev S8x4096 : Shape := ⟨2, ![8, 4096]⟩
abbrev S4096x128 : Shape := ⟨2, ![4096, 128]⟩
abbrev S1x1 : Shape := ⟨2, ![1, 1]⟩
abbrev S1x4096 : Shape := ⟨2, ![1, 4096]⟩
abbrev S4x4096 : Shape := ⟨2, ![4, 4096]⟩
abbrev S4096x8 : Shape := ⟨2, ![4096, 8]⟩
abbrev S4096x1 : Shape := ⟨2, ![4096, 1]⟩
abbrev S2x4096 : Shape := ⟨2, ![2, 4096]⟩

abbrev nBuf : Space → Nat
  | .hbm => 16
  | .vmem => 11
  | .smem => 0
  | _ => 0

abbrev bufTy : (tb : Table) → Fin (tcTables nBuf tb) → BufTy
  | .hbm, ⟨0, _⟩ => ⟨S65536x6, .f32⟩
  | .hbm, ⟨1, _⟩ => ⟨S128, .f32⟩
  | .hbm, ⟨2, _⟩ => ⟨S1x128, .f32⟩
  | .hbm, ⟨3, _⟩ => ⟨S6x65536, .f32⟩
  | .hbm, ⟨4, _⟩ => ⟨S8x65536, .f32⟩
  | .hbm, ⟨5, _⟩ => ⟨S65536x128, .f32⟩
  | .hbm, ⟨6, _⟩ => ⟨S65536x128, .i32⟩
  | .hbm, ⟨7, _⟩ => ⟨S65536x128, .i32⟩
  | .hbm, ⟨8, _⟩ => ⟨S_, .i32⟩
  | .hbm, ⟨9, _⟩ => ⟨S65536x128, .i32⟩
  | .hbm, ⟨10, _⟩ => ⟨S65536x128, .i1⟩
  | .hbm, ⟨11, _⟩ => ⟨S65536x128, .i1⟩
  | .hbm, ⟨12, _⟩ => ⟨S65536x8, .f32⟩
  | .hbm, ⟨13, _⟩ => ⟨S65536x7, .f32⟩
  | .hbm, ⟨14, _⟩ => ⟨S65536x1x7, .f32⟩
  | .hbm, ⟨15, _⟩ => ⟨S65536x128x7, .f32⟩
  | .local _ .vmem, ⟨0, _⟩ => ⟨S6x4096, .f32⟩
  | .local _ .vmem, ⟨1, _⟩ => ⟨S6x4096, .f32⟩
  | .local _ .vmem, ⟨2, _⟩ => ⟨S1x128, .f32⟩
  | .local _ .vmem, ⟨3, _⟩ => ⟨S8x4096, .f32⟩
  | .local _ .vmem, ⟨4, _⟩ => ⟨S8x4096, .f32⟩
  | .local _ .vmem, ⟨5, _⟩ => ⟨S4096x128, .f32⟩
  | .local _ .vmem, ⟨6, _⟩ => ⟨S4096x128, .f32⟩
  | .local _ .vmem, ⟨7, _⟩ => ⟨S4096x128, .i32⟩
  | .local _ .vmem, ⟨8, _⟩ => ⟨S4096x128, .i32⟩
  | .local _ .vmem, ⟨9, _⟩ => ⟨S4096x128, .i32⟩
  | .local _ .vmem, ⟨10, _⟩ => ⟨S4096x128, .i32⟩
  | _, _ => ⟨S65536x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2_0 : Ref sig .tc := ⟨.hbm, 4, rfl⟩
abbrev main_v0_1 : Ref sig .tc := ⟨.hbm, 5, rfl⟩
abbrev main_v0_2 : Ref sig .tc := ⟨.hbm, 6, rfl⟩
abbrev main_call0_v2_3 : Ref sig .tc := ⟨.hbm, 7, rfl⟩
abbrev main_call0_c : Ref sig .tc := ⟨.hbm, 8, rfl⟩
abbrev main_call0_v3 : Ref sig .tc := ⟨.hbm, 9, rfl⟩
abbrev main_call0_v4 : Ref sig .tc := ⟨.hbm, 10, rfl⟩
abbrev main_v0_3 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_v0_0 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x128 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S65536x6 : Shape := ⟨2, ![65536, 6]⟩
abbrev S128 : Shape := ⟨1, ![128]⟩
abbrev S65536x3 : Shape := ⟨2, ![65536, 3]⟩
abbrev S65536x1x3 : Shape := ⟨3, ![65536, 1, 3]⟩
abbrev S65536x128x3 : Shape := ⟨3, ![65536, 128, 3]⟩
abbrev S1x128 : Shape := ⟨2, ![1, 128]⟩
abbrev S65536x128 : Shape := ⟨2, ![65536, 128]⟩
abbrev S_ : Shape := ⟨0, ![]⟩
abbrev S65536x128x1 : Shape := ⟨3, ![65536, 128, 1]⟩
abbrev S1 : Shape := ⟨1, ![1]⟩
abbrev S1x1x1 : Shape := ⟨3, ![1, 1, 1]⟩
abbrev S65536x128x6 : Shape := ⟨3, ![65536, 128, 6]⟩
abbrev S65536x128x7 : Shape := ⟨3, ![65536, 128, 7]⟩

abbrev nBuf : Space → Nat
  | .hbm => 146
  | .vmem => 0
  | .smem => 0
  | _ => 0

abbrev hbmTy0_0 (i : Nat) : BufTy := match i % 128 with
  | 0 => ⟨S65536x6, .f32⟩
  | 1 => ⟨S128, .f32⟩
  | 2 => ⟨S65536x3, .f32⟩
  | 3 => ⟨S65536x1x3, .f32⟩
  | 4 => ⟨S65536x128x3, .f32⟩
  | 5 => ⟨S65536x3, .f32⟩
  | 6 => ⟨S65536x1x3, .f32⟩
  | 7 => ⟨S65536x128x3, .f32⟩
  | 8 => ⟨S1x128, .f32⟩
  | 9 => ⟨S65536x128, .f32⟩
  | 10 => ⟨S65536x128x3, .f32⟩
  | 11 => ⟨S_, .f32⟩
  | 12 => ⟨S65536x128, .f32⟩
  | 13 => ⟨S65536x128x3, .f32⟩
  | 14 => ⟨S_, .f32⟩
  | 15 => ⟨S65536x128, .f32⟩
  | 16 => ⟨S65536x128x3, .f32⟩
  | 17 => ⟨S_, .f32⟩
  | 18 => ⟨S65536x128, .f32⟩
  | 19 => ⟨S65536x128, .f32⟩
  | 20 => ⟨S65536x128, .f32⟩
  | 21 => ⟨S65536x128, .f32⟩
  | 22 => ⟨S65536x128, .f32⟩
  | 23 => ⟨S65536x128, .f32⟩
  | 24 => ⟨S_, .f32⟩
  | 25 => ⟨S65536x128, .f32⟩
  | 26 => ⟨S65536x128, .f32⟩
  | 27 => ⟨S65536x128, .f32⟩
  | 28 => ⟨S65536x128, .f32⟩
  | 29 => ⟨S65536x128, .f32⟩
  | 30 => ⟨S65536x128, .f32⟩
  | 31 => ⟨S65536x128x1, .f32⟩
  | 32 => ⟨S65536x128x3, .f32⟩
  | 33 => ⟨S65536x128x3, .f32⟩
  | 34 => ⟨S65536x128x3, .f32⟩
  | 35 => ⟨S65536x128x3, .f32⟩
  | 36 => ⟨S65536x128x3, .f32⟩
  | 37 => ⟨S_, .f32⟩
  | 38 => ⟨S65536x128, .f32⟩
  | 39 => ⟨S65536x128, .f32⟩
  | 40 => ⟨S65536x128, .i32⟩
  | 41 => ⟨S65536x128, .f32⟩
  | 42 => ⟨S65536x128, .i32⟩
  | 43 => ⟨S_, .i32⟩
  | 44 => ⟨S65536x128, .i32⟩
  | 45 => ⟨S65536x128, .i1⟩
  | 46 => ⟨S_, .i32⟩
  | 47 => ⟨S65536x128, .i32⟩
  | 48 => ⟨S65536x128, .i32⟩
  | 49 => ⟨S65536x128, .i32⟩
  | 50 => ⟨S65536x128x1, .i32⟩
  | 51 => ⟨S1, .i32⟩
  | 52 => ⟨S_, .i32⟩
  | 53 => ⟨S65536x128x1, .i32⟩
  | 54 => ⟨S65536x128x1, .i1⟩
  | 55 => ⟨S1x1x1, .i32⟩
  | 56 => ⟨S65536x128x1, .i32⟩
  | 57 => ⟨S65536x128x1, .i1⟩
  | 58 => ⟨S65536x128x1, .i1⟩
  | 59 => ⟨S_, .i1⟩
  | 60 => ⟨S65536x128, .i1⟩
  | 61 => ⟨S65536x128, .f32⟩
  | 62 => ⟨S_, .f32⟩
  | 63 => ⟨S65536x128, .f32⟩
  | 64 => ⟨S65536x128, .f32⟩
  | 65 => ⟨S65536x128x1, .i32⟩
  | 66 => ⟨S_, .i32⟩
  | 67 => ⟨S65536x128x1, .i32⟩
  | 68 => ⟨S65536x128x1, .i1⟩
  | 69 => ⟨S_, .i32⟩
  | 70 => ⟨S65536x128x1, .i32⟩
  | 71 => ⟨S65536x128x1, .i32⟩
  | 72 => ⟨S65536x128x1, .i32⟩
  | 73 => ⟨S1, .i32⟩
  | 74 => ⟨S_, .i32⟩
  | 75 => ⟨S65536x128x1, .i32⟩
  | 76 => ⟨S65536x128x1, .i1⟩
  | 77 => ⟨S1x1x1, .i32⟩
  | 78 => ⟨S65536x128x1, .i32⟩
  | 79 => ⟨S65536x128x1, .i1⟩
  | 80 => ⟨S65536x128x1, .i1⟩
  | 81 => ⟨S_, .i1⟩
  | 82 => ⟨S65536x128, .i1⟩
  | 83 => ⟨S65536x128x3, .f32⟩
  | 84 => ⟨S65536x128x3, .i1⟩
  | 85 => ⟨S_, .f32⟩
  | 86 => ⟨S65536x128x3, .f32⟩
  | 87 => ⟨S65536x128x3, .f32⟩
  | 88 => ⟨S_, .f32⟩
  | 89 => ⟨S65536x128, .f32⟩
  | 90 => ⟨S65536x128, .i1⟩
  | 91 => ⟨S_, .i32⟩
  | 92 => ⟨S_, .i32⟩
  | 93 => ⟨S65536x128, .i32⟩
  | 94 => ⟨S65536x128, .i32⟩
  | 95 => ⟨S65536x128, .i32⟩
  | 96 => ⟨S65536x128, .i32⟩
  | 97 => ⟨S_, .i32⟩
  | 98 => ⟨S65536x128, .i32⟩
  | 99 => ⟨S65536x128, .i1⟩
  | 100 => ⟨S_, .i32⟩
  | 101 => ⟨S_, .i32⟩
  | 102 => ⟨S65536x128, .i32⟩
  | 103 => ⟨S65536x128, .i32⟩
  | 104 => ⟨S1x128, .f32⟩
  | 105 => ⟨S65536x128, .f32⟩
  | 106 => ⟨S_, .i32⟩
  | 107 => ⟨S65536x128, .i32⟩
  | 108 => ⟨S65536x128, .i1⟩
  | 109 => ⟨S_, .i32⟩
  | 110 => ⟨S65536x128, .i32⟩
  | 111 => ⟨S65536x128, .i32⟩
  | 112 => ⟨S65536x128, .i32⟩
  | 113 => ⟨S65536x128x1, .i32⟩
  | 114 => ⟨S1, .i32⟩
  | 115 => ⟨S_, .i32⟩
  | 116 => ⟨S65536x128x1, .i32⟩
  | 117 => ⟨S65536x128x1, .i1⟩
  | 118 => ⟨S1x1x1, .i32⟩
  | 119 => ⟨S65536x128x1, .i32⟩
  | 120 => ⟨S65536x128x1, .i1⟩
  | 121 => ⟨S65536x128x1, .i1⟩
  | 122 => ⟨S_, .i1⟩
  | 123 => ⟨S65536x128, .i1⟩
  | 124 => ⟨S65536x128, .f32⟩
  | 125 => ⟨S_, .f32⟩
  | 126 => ⟨S65536x128, .f32⟩
  | 127 => ⟨S65536x128, .f32⟩
  | _ => ⟨S65536x6, .f32⟩

abbrev hbmTy0_1 (i : Nat) : BufTy := match i % 128 with
  | 0 => ⟨S65536x3, .f32⟩
  | 1 => ⟨S65536x1x3, .f32⟩
  | 2 => ⟨S65536x128x1, .f32⟩
  | 3 => ⟨S65536x128x3, .f32⟩
  | 4 => ⟨S65536x128x3, .f32⟩
  | 5 => ⟨S65536x128x3, .f32⟩
  | 6 => ⟨S65536x128x1, .i1⟩
  | 7 => ⟨S65536x128x3, .i1⟩
  | 8 => ⟨S65536x128x3, .f32⟩
  | 9 => ⟨S65536x3, .f32⟩
  | 10 => ⟨S65536x1x3, .f32⟩
  | 11 => ⟨S65536x128x3, .f32⟩
  | 12 => ⟨S65536x128x6, .f32⟩
  | 13 => ⟨S65536x128x1, .f32⟩
  | 14 => ⟨S65536x128x7, .f32⟩
  | 15 => ⟨S_, .i32⟩
  | 16 => ⟨S65536x128, .i32⟩
  | 17 => ⟨S65536x128, .i1⟩
  | _ => ⟨S65536x6, .f32⟩

abbrev hbmTy (i : Nat) : BufTy := match i / 128 with
  | 0 => hbmTy0_0 i
  | 1 => hbmTy0_1 i
  | _ => ⟨S65536x6, .f32⟩

abbrev bufTy : (tb : Table) → Fin (tcTables nBuf tb) → BufTy
  | .hbm, ⟨i, _⟩ => hbmTy i
  | _, _ => ⟨S65536x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_2 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_call0_v0 : Ref sig .tc := ⟨.hbm, 36, rfl⟩
abbrev main_call0_cst : Ref sig .tc := ⟨.hbm, 37, rfl⟩
abbrev main_call0_v1 : Ref sig .tc := ⟨.hbm, 38, rfl⟩
abbrev main_v30 : Ref sig .tc := ⟨.hbm, 39, rfl⟩
abbrev main_call1_v0 : Ref sig .tc := ⟨.hbm, 40, rfl⟩
abbrev main_call1_v1_0 : Ref sig .tc := ⟨.hbm, 41, rfl⟩
abbrev main_v31 : Ref sig .tc := ⟨.hbm, 42, rfl⟩
abbrev main_call2_c : Ref sig .tc := ⟨.hbm, 43, rfl⟩
abbrev main_call2_v0 : Ref sig .tc := ⟨.hbm, 44, rfl⟩
abbrev main_call2_v1 : Ref sig .tc := ⟨.hbm, 45, rfl⟩
abbrev main_call2_c_0 : Ref sig .tc := ⟨.hbm, 46, rfl⟩
abbrev main_call2_v2 : Ref sig .tc := ⟨.hbm, 47, rfl⟩
abbrev main_call2_v3 : Ref sig .tc := ⟨.hbm, 48, rfl⟩
abbrev main_call2_v4 : Ref sig .tc := ⟨.hbm, 49, rfl⟩
abbrev main_call2_v5 : Ref sig .tc := ⟨.hbm, 50, rfl⟩
abbrev main_call2_c_1 : Ref sig .tc := ⟨.hbm, 51, rfl⟩
abbrev main_call2_c_2 : Ref sig .tc := ⟨.hbm, 52, rfl⟩
abbrev main_call2_v6 : Ref sig .tc := ⟨.hbm, 53, rfl⟩
abbrev main_call2_v7 : Ref sig .tc := ⟨.hbm, 54, rfl⟩
abbrev main_call2_v8 : Ref sig .tc := ⟨.hbm, 55, rfl⟩
abbrev main_call2_v9 : Ref sig .tc := ⟨.hbm, 56, rfl⟩
abbrev main_call2_v10 : Ref sig .tc := ⟨.hbm, 57, rfl⟩
abbrev main_call2_v11 : Ref sig .tc := ⟨.hbm, 58, rfl⟩
abbrev main_call2_c_3 : Ref sig .tc := ⟨.hbm, 59, rfl⟩
abbrev main_call2_v12 : Ref sig .tc := ⟨.hbm, 60, rfl⟩
abbrev main_call2_v13 : Ref sig .tc := ⟨.hbm, 61, rfl⟩
abbrev main_call2_cst : Ref sig .tc := ⟨.hbm, 62, rfl⟩
abbrev main_call2_v14 : Ref sig .tc := ⟨.hbm, 63, rfl⟩
abbrev main_v32 : Ref sig .tc := ⟨.hbm, 64, rfl⟩
abbrev main_v33 : Ref sig .tc := ⟨.hbm, 65, rfl⟩
abbrev main_call3_c : Ref sig .tc := ⟨.hbm, 66, rfl⟩
abbrev main_call3_v0 : Ref sig .tc := ⟨.hbm, 67, rfl⟩
abbrev main_call3_v1 : Ref sig .tc := ⟨.hbm, 68, rfl⟩
abbrev main_call3_c_0 : Ref sig .tc := ⟨.hbm, 69, rfl⟩
abbrev main_call3_v2 : Ref sig .tc := ⟨.hbm, 70, rfl⟩
abbrev main_call3_v3 : Ref sig .tc := ⟨.hbm, 71, rfl⟩
abbrev main_call3_v4 : Ref sig .tc := ⟨.hbm, 72, rfl⟩
abbrev main_call3_c_1 : Ref sig .tc := ⟨.hbm, 73, rfl⟩
abbrev main_call3_c_2 : Ref sig .tc := ⟨.hbm, 74, rfl⟩
abbrev main_call3_v5 : Ref sig .tc := ⟨.hbm, 75, rfl⟩
abbrev main_call3_v6 : Ref sig .tc := ⟨.hbm, 76, rfl⟩
abbrev main_call3_v7 : Ref sig .tc := ⟨.hbm, 77, rfl⟩
abbrev main_call3_v8 : Ref sig .tc := ⟨.hbm, 78, rfl⟩
abbrev main_call3_v9 : Ref sig .tc := ⟨.hbm, 79, rfl⟩
abbrev main_call3_v10 : Ref sig .tc := ⟨.hbm, 80, rfl⟩
abbrev main_call3_c_3 : Ref sig .tc := ⟨.hbm, 81, rfl⟩
abbrev main_call3_v11 : Ref sig .tc := ⟨.hbm, 82, rfl⟩
abbrev main_call3_v12 : Ref sig .tc := ⟨.hbm, 83, rfl⟩
abbrev main_call3_v13 : Ref sig .tc := ⟨.hbm, 84, rfl⟩
abbrev main_call3_cst : Ref sig .tc := ⟨.hbm, 85, rfl⟩
abbrev main_call3_v14 : Ref sig .tc := ⟨.hbm, 86, rfl⟩
abbrev main_v34 : Ref sig .tc := ⟨.hbm, 87, rfl⟩
abbrev main_cst_3 : Ref sig .tc := ⟨.hbm, 88, rfl⟩
abbrev main_v35 : Ref sig .tc := ⟨.hbm, 89, rfl⟩
abbrev main_v36 : Ref sig .tc := ⟨.hbm, 90, rfl⟩
abbrev main_c : Ref sig .tc := ⟨.hbm, 91, rfl⟩
abbrev main_c_4 : Ref sig .tc := ⟨.hbm, 92, rfl⟩
abbrev main_call4_v0 : Ref sig .tc := ⟨.hbm, 93, rfl⟩
abbrev main_call4_v1 : Ref sig .tc := ⟨.hbm, 94, rfl⟩
abbrev main_v37 : Ref sig .tc := ⟨.hbm, 95, rfl⟩
abbrev main_v38 : Ref sig .tc := ⟨.hbm, 96, rfl⟩
abbrev main_c_5 : Ref sig .tc := ⟨.hbm, 97, rfl⟩
abbrev main_v39 : Ref sig .tc := ⟨.hbm, 98, rfl⟩
abbrev main_v40 : Ref sig .tc := ⟨.hbm, 99, rfl⟩
abbrev main_c_6 : Ref sig .tc := ⟨.hbm, 100, rfl⟩
abbrev main_call5_v0 : Ref sig .tc := ⟨.hbm, 101, rfl⟩
abbrev main_call5_v1 : Ref sig .tc := ⟨.hbm, 102, rfl⟩
abbrev main_v41 : Ref sig .tc := ⟨.hbm, 103, rfl⟩
abbrev main_v42 : Ref sig .tc := ⟨.hbm, 104, rfl⟩
abbrev main_v43 : Ref sig .tc := ⟨.hbm, 105, rfl⟩
abbrev main_call6_c : Ref sig .tc := ⟨.hbm, 106, rfl⟩
abbrev main_call6_v0 : Ref sig .tc := ⟨.hbm, 107, rfl⟩
abbrev main_call6_v1 : Ref sig .tc := ⟨.hbm, 108, rfl⟩
abbrev main_call6_c_0 : Ref sig .tc := ⟨.hbm, 109, rfl⟩
abbrev main_call6_v2 : Ref sig .tc := ⟨.hbm, 110, rfl⟩
abbrev main_call6_v3 : Ref sig .tc := ⟨.hbm, 111, rfl⟩
abbrev main_call6_v4 : Ref sig .tc := ⟨.hbm, 112, rfl⟩
abbrev main_call6_v5 : Ref sig .tc := ⟨.hbm, 113, rfl⟩
abbrev main_call6_c_1 : Ref sig .tc := ⟨.hbm, 114, rfl⟩
abbrev main_call6_c_2 : Ref sig .tc := ⟨.hbm, 115, rfl⟩
abbrev main_call6_v6 : Ref sig .tc := ⟨.hbm, 116, rfl⟩
abbrev main_call6_v7 : Ref sig .tc := ⟨.hbm, 117, rfl⟩
abbrev main_call6_v8 : Ref sig .tc := ⟨.hbm, 118, rfl⟩
abbrev main_call6_v9 : Ref sig .tc := ⟨.hbm, 119, rfl⟩
abbrev main_call6_v10 : Ref sig .tc := ⟨.hbm, 120, rfl⟩
abbrev main_call6_v11 : Ref sig .tc := ⟨.hbm, 121, rfl⟩
abbrev main_call6_c_3 : Ref sig .tc := ⟨.hbm, 122, rfl⟩
abbrev main_call6_v12 : Ref sig .tc := ⟨.hbm, 123, rfl⟩
abbrev main_call6_v13 : Ref sig .tc := ⟨.hbm, 124, rfl⟩
abbrev main_call6_cst : Ref sig .tc := ⟨.hbm, 125, rfl⟩
abbrev main_call6_v14 : Ref sig .tc := ⟨.hbm, 126, rfl⟩
abbrev main_v44 : Ref sig .tc := ⟨.hbm, 127, rfl⟩
abbrev main_v45 : Ref sig .tc := ⟨.hbm, 128, rfl⟩
abbrev main_v46 : Ref sig .tc := ⟨.hbm, 129, rfl⟩
abbrev main_v47 : Ref sig .tc := ⟨.hbm, 130, rfl⟩
abbrev main_v48 : Ref sig .tc := ⟨.hbm, 131, rfl⟩
abbrev main_v49 : Ref sig .tc := ⟨.hbm, 132, rfl⟩
abbrev main_v50 : Ref sig .tc := ⟨.hbm, 133, rfl⟩
abbrev main_v51 : Ref sig .tc := ⟨.hbm, 134, rfl⟩
abbrev main_call7_v0 : Ref sig .tc := ⟨.hbm, 135, rfl⟩
abbrev main_v52 : Ref sig .tc := ⟨.hbm, 136, rfl⟩
abbrev main_v53 : Ref sig .tc := ⟨.hbm, 137, rfl⟩
abbrev main_v54 : Ref sig .tc := ⟨.hbm, 138, rfl⟩
abbrev main_v55 : Ref sig .tc := ⟨.hbm, 139, rfl⟩
abbrev main_v56 : Ref sig .tc := ⟨.hbm, 140, rfl⟩
abbrev main_v57 : Ref sig .tc := ⟨.hbm, 141, rfl⟩
abbrev main_v58 : Ref sig .tc := ⟨.hbm, 142, rfl⟩
abbrev main_c_7 : Ref sig .tc := ⟨.hbm, 143, rfl⟩
abbrev main_v59 : Ref sig .tc := ⟨.hbm, 144, rfl⟩
abbrev main_v60 : Ref sig .tc := ⟨.hbm, 145, rfl⟩

abbrev nD : Nat := 1
abbrev τ : Topo := Topo.v7x

variable {F : FTy → Type} [FloatOps F]
-- ==== Proof.Depth.lean ====
/-
  ONE RAY AND ONE RADIUS, over the extended reals. The reference finds the point where a ray meets a sphere about the
  origin (`o + t d` with `t` the greater root of the quadratic) and takes that point's distance from the ray's start. The
  kernel skips the point: it takes `|√disc − b| / √a` from the coefficients of the quadratic alone. This module names the
  two numbers (`meet`, `span`) and proves that they agree for every ray that starts at a finite point (`span_eq_meet`),
  whatever its direction and whatever the radius: a zero direction, an infinite one and an infinite radius are cases of
  their own.
-/
module

public import Idealize.ShloMosaic.PureOps.Ideal.Laws

@[expose] public section

noncomputable section

namespace Cert.Proof

open Idealize.ShloMosaic

/-- The inner product of two vectors of three entries. -/
def dot3 (x y : Fin 3 → EReal) : EReal := x 0 * y 0 + x 1 * y 1 + x 2 * y 2

/-- The greater root of the quadratic: how far along `d`, in units of `d`, the ray is at radius `r`. -/
def root (o d : Fin 3 → EReal) (r : EReal) : EReal :=
  Ideal.div (-dot3 o d + Ideal.sqrt (max (dot3 o d * dot3 o d - dot3 d d * (dot3 o o - r * r)) 0)) (dot3 d d)

/-- What is left of the start when the meeting point is taken away from it. -/
def away (o d : Fin 3 → EReal) (r : EReal) (k : Fin 3) : EReal := o k - (o k + root o d r * d k)

/-- The reference's depth: the length of that difference. -/
def meet (o d : Fin 3 → EReal) (r : EReal) : EReal := Ideal.sqrt (dot3 (away o d r) (away o d r))

/-- The kernel's depth before the scale, up to sign: `√(max (a r² + (b² − a c)) 0) − b`. -/
def gap (o d : Fin 3 → EReal) (r : EReal) : EReal :=
  Ideal.sqrt (max (dot3 d d * (r * r) + (dot3 o d * dot3 o d - dot3 d d * dot3 o o)) 0) - dot3 o d

/-- The kernel's depth. -/
def span (o d : Fin 3 → EReal) (r : EReal) : EReal := max (gap o d r) (-gap o d r) * Ideal.rsqrt (dot3 d d)

/-! ## Squares and infinities -/

theorem sq_nonneg' (x : EReal) : 0 ≤ x * x := by
  induction x with
  | bot => simp
  | top => simp
  | coe x => exact_mod_cast mul_self_nonneg x

theorem dot3_self_nonneg (x : Fin 3 → EReal) : 0 ≤ dot3 x x :=
  add_nonneg (add_nonneg (sq_nonneg' _) (sq_nonneg' _)) (sq_nonneg' _)

/-- An infinite number's square is `⊤`. -/
theorem sq_top {x : EReal} (h : x = ⊤ ∨ x = ⊥) : x * x = ⊤ := by
  rcases h with rfl | rfl <;> simp

/-- A vector with a square that is `⊤` has the inner product `⊤` with itself. -/
theorem dot3_self_top {x : Fin 3 → EReal} (k : Fin 3) (h : x k * x k = ⊤) : dot3 x x = ⊤ := by
  have hb : ∀ j, x j * x j ≠ ⊥ := fun j => ne_of_gt (lt_of_lt_of_le (by decide : (⊥ : EReal) < 0) (sq_nonneg' _))
  unfold dot3
  fin_cases k
  · simp only [Fin.zero_eta] at h
    rw [h, EReal.top_add_of_ne_bot (hb 1), EReal.top_add_of_ne_bot (hb 2)]
  · simp only [Fin.mk_one] at h
    rw [h, EReal.add_top_of_ne_bot (hb 0), EReal.top_add_of_ne_bot (hb 2)]
  · have h' : x 2 * x 2 = ⊤ := h
    rw [h', EReal.add_top_of_ne_bot]
    exact fun hc => (EReal.add_eq_bot_iff.mp hc).elim (hb 0) (hb 1)

/-- Three numbers none of which is infinite are real. -/
theorem real_of_finite {x : Fin 3 → EReal} (h : ∀ k, x k ≠ ⊤ ∧ x k ≠ ⊥) : ∃ y : Fin 3 → ℝ, ∀ k, x k = (y k : EReal) :=
  ⟨fun k => (x k).toReal, fun k => (EReal.coe_toReal (h k).1 (h k).2).symm⟩

theorem dot3_coe (x y : Fin 3 → ℝ) :
    dot3 (fun k => (x k : EReal)) (fun k => (y k : EReal)) = ((x 0 * y 0 + x 1 * y 1 + x 2 * y 2 : ℝ) : EReal) := by
  simp only [dot3, EReal.coe_add, EReal.coe_mul]

theorem sqrt_of_nonneg {x : ℝ} (h : 0 ≤ x) : Ideal.sqrt (x : EReal) = ((Real.sqrt x : ℝ) : EReal) := by
  rw [Ideal.sqrt_coe, if_neg (not_lt.mpr h)]

theorem max_coe_zero (x : ℝ) : max (x : EReal) 0 = ((max x 0 : ℝ) : EReal) := by
  exact (EReal.coe_strictMono.monotone.map_max (a := x) (b := 0)).symm

theorem max_neg_coe (x : ℝ) : max (x : EReal) (-(x : EReal)) = ((|x| : ℝ) : EReal) := by
  rw [← EReal.coe_neg]
  exact (EReal.coe_strictMono.monotone.map_max (a := x) (b := -x)).symm

theorem sqrt_zero' : Ideal.sqrt 0 = 0 := by
  have h := sqrt_of_nonneg (le_refl (0 : ℝ))
  simpa using h

/-- A difference that is nothing in each coordinate has length 0. -/
theorem meet_of_still {o d : Fin 3 → EReal} {r : EReal} (ho : ∀ k, o k ≠ ⊤ ∧ o k ≠ ⊥) (h : ∀ k, root o d r * d k = 0) :
    meet o d r = 0 := by
  have hz : ∀ k, away o d r k = 0 := fun k => by
    unfold away
    rw [h k, add_zero, EReal.sub_self (ho k).1 (ho k).2]
  unfold meet dot3
  simp only [hz, mul_zero, add_zero]
  exact sqrt_zero'

/-! ## The cases -/

/-- A direction that is infinite in some coordinate: both depths are 0. -/
theorem span_eq_meet_top {o d : Fin 3 → EReal} {r : EReal} (ho : ∀ k, o k ≠ ⊤ ∧ o k ≠ ⊥) (h : dot3 d d = ⊤) :
    span o d r = meet o d r := by
  rw [meet_of_still ho fun k => ?_]
  · unfold span; rw [h, Ideal.rsqrt_top, mul_zero]
  · unfold root; rw [h]; unfold Ideal.div
    rw [if_neg (by decide), EReal.inv_top, mul_zero, zero_mul]

/-- No direction at all: both depths are 0. -/
theorem span_eq_meet_zero {o d : Fin 3 → EReal} {r : EReal} (ho : ∀ k, o k ≠ ⊤ ∧ o k ≠ ⊥) (h : ∀ k, d k = 0) :
    span o d r = meet o d r := by
  rw [meet_of_still ho fun k => by rw [h k, mul_zero]]
  have h1 : dot3 d d = 0 := by unfold dot3; simp [h]
  have h2 : dot3 o d = 0 := by unfold dot3; simp [h]
  unfold span gap
  rw [h1, h2]
  simp [sqrt_zero']

/-- A real direction that is not zero, and an infinite radius: both depths are infinite. -/
theorem span_eq_meet_far {o d : Fin 3 → ℝ} {r : EReal} (hr : r * r = ⊤) (ha : 0 < d 0 * d 0 + d 1 * d 1 + d 2 * d 2) :
    span (fun k => (o k : EReal)) (fun k => (d k : EReal)) r = meet (fun k => (o k : EReal)) (fun k => (d k : EReal)) r := by
  have hroot : root (fun k => (o k : EReal)) (fun k => (d k : EReal)) r = ⊤ := by
    unfold root
    rw [dot3_coe, dot3_coe, dot3_coe, hr]
    generalize d 0 * d 0 + d 1 * d 1 + d 2 * d 2 = a at ha
    generalize o 0 * d 0 + o 1 * d 1 + o 2 * d 2 = b
    generalize o 0 * o 0 + o 1 * o 1 + o 2 * o 2 = c
    rw [show ((c : EReal) - ⊤) = ⊥ from rfl, EReal.coe_mul_bot_of_pos ha, ← EReal.coe_mul,
      show (((b * b : ℝ) : EReal) - ⊥) = ⊤ from rfl, max_eq_left le_top, Ideal.sqrt_top, ← EReal.coe_neg,
      EReal.coe_add_top]
    unfold Ideal.div
    rw [if_neg (by exact_mod_cast ha.ne'), ← EReal.coe_inv, EReal.top_mul_coe_of_pos (inv_pos.mpr ha)]
  have hspan : span (fun k => (o k : EReal)) (fun k => (d k : EReal)) r = ⊤ := by
    unfold span gap
    rw [dot3_coe, dot3_coe, dot3_coe, hr]
    generalize d 0 * d 0 + d 1 * d 1 + d 2 * d 2 = a at ha
    generalize o 0 * d 0 + o 1 * d 1 + o 2 * d 2 = b
    generalize o 0 * o 0 + o 1 * o 1 + o 2 * o 2 = c
    rw [EReal.coe_mul_top_of_pos ha, ← EReal.coe_mul, ← EReal.coe_mul, ← EReal.coe_sub, EReal.top_add_coe,
      max_eq_left le_top, Ideal.sqrt_top, EReal.top_sub_coe, max_eq_left le_top, Ideal.rsqrt_coe,
      if_neg (not_lt.mpr ha.le), if_neg ha.ne', EReal.top_mul_coe_of_pos (inv_pos.mpr (Real.sqrt_pos.mpr ha))]
  rw [hspan]
  obtain ⟨k, hk⟩ : ∃ k, d k ≠ 0 := by
    by_contra hc
    push Not at hc
    rw [hc 0, hc 1, hc 2] at ha
    simp at ha
  have hk' : away (fun k => (o k : EReal)) (fun k => (d k : EReal)) r k = ⊤ ∨
      away (fun k => (o k : EReal)) (fun k => (d k : EReal)) r k = ⊥ := by
    unfold away
    rw [hroot]
    rcases lt_or_gt_of_ne hk with hn | hp
    · left
      rw [EReal.top_mul_coe_of_neg hn, EReal.add_bot]
      rfl
    · right
      rw [EReal.top_mul_coe_of_pos hp, EReal.coe_add_top]
      rfl
  unfold meet
  rw [dot3_self_top k (sq_top hk'), Ideal.sqrt_top]

/-- Everything real and the direction not zero: `|t| √a = |√disc − b| / √a`. -/
theorem span_eq_meet_real {o d : Fin 3 → ℝ} {r : ℝ} (ha : 0 < d 0 * d 0 + d 1 * d 1 + d 2 * d 2) :
    span (fun k => (o k : EReal)) (fun k => (d k : EReal)) r = meet (fun k => (o k : EReal)) (fun k => (d k : EReal)) r := by
  have hroot : root (fun k => (o k : EReal)) (fun k => (d k : EReal)) r
      = (((-(o 0 * d 0 + o 1 * d 1 + o 2 * d 2)
          + Real.sqrt (max ((d 0 * d 0 + d 1 * d 1 + d 2 * d 2) * (r * r) + ((o 0 * d 0 + o 1 * d 1 + o 2 * d 2)
              * (o 0 * d 0 + o 1 * d 1 + o 2 * d 2) - (d 0 * d 0 + d 1 * d 1 + d 2 * d 2)
              * (o 0 * o 0 + o 1 * o 1 + o 2 * o 2))) 0)) * (d 0 * d 0 + d 1 * d 1 + d 2 * d 2)⁻¹ : ℝ) : EReal) := by
    unfold root
    rw [dot3_coe, dot3_coe, dot3_coe]
    generalize d 0 * d 0 + d 1 * d 1 + d 2 * d 2 = a at ha
    generalize o 0 * d 0 + o 1 * d 1 + o 2 * d 2 = b
    generalize o 0 * o 0 + o 1 * o 1 + o 2 * o 2 = c
    unfold Ideal.div
    rw [if_neg (by exact_mod_cast ha.ne'), ← EReal.coe_mul, ← EReal.coe_mul, ← EReal.coe_sub, ← EReal.coe_mul,
      ← EReal.coe_sub, max_coe_zero, sqrt_of_nonneg (le_max_right _ _), ← EReal.coe_neg, ← EReal.coe_add,
      ← EReal.coe_inv, ← EReal.coe_mul, show b * b - a * (c - r * r) = a * (r * r) + (b * b - a * c) by ring]
  have haway : ∀ k, away (fun k => (o k : EReal)) (fun k => (d k : EReal)) r k
      = ((-(((-(o 0 * d 0 + o 1 * d 1 + o 2 * d 2)
          + Real.sqrt (max ((d 0 * d 0 + d 1 * d 1 + d 2 * d 2) * (r * r) + ((o 0 * d 0 + o 1 * d 1 + o 2 * d 2)
              * (o 0 * d 0 + o 1 * d 1 + o 2 * d 2) - (d 0 * d 0 + d 1 * d 1 + d 2 * d 2)
              * (o 0 * o 0 + o 1 * o 1 + o 2 * o 2))) 0)) * (d 0 * d 0 + d 1 * d 1 + d 2 * d 2)⁻¹) * d k) : ℝ) : EReal) :=
    fun k => by
      unfold away
      rw [hroot, ← EReal.coe_mul, ← EReal.coe_add, ← EReal.coe_sub]
      refine congrArg _ ?_
      ring
  unfold meet span gap
  rw [show dot3 (away (fun k => (o k : EReal)) (fun k => (d k : EReal)) r) (away (fun k => (o k : EReal)) (fun k => (d k : EReal)) r)
    = dot3 (fun k => ((_ : ℝ) : EReal)) (fun k => ((_ : ℝ) : EReal)) from
      congrArg₂ dot3 (funext haway) (funext haway), dot3_coe, dot3_coe, dot3_coe, dot3_coe]
  set a := d 0 * d 0 + d 1 * d 1 + d 2 * d 2 with hadef
  generalize o 0 * d 0 + o 1 * d 1 + o 2 * d 2 = b
  generalize o 0 * o 0 + o 1 * o 1 + o 2 * o 2 = c
  rw [← EReal.coe_mul, ← EReal.coe_mul, ← EReal.coe_mul, ← EReal.coe_mul, ← EReal.coe_sub, ← EReal.coe_add,
    max_coe_zero, sqrt_of_nonneg (le_max_right _ _), ← EReal.coe_sub, max_neg_coe, Ideal.rsqrt_coe,
    if_neg (not_lt.mpr ha.le), if_neg ha.ne', ← EReal.coe_mul]
  generalize Real.sqrt (max (a * (r * r) + (b * b - a * c)) 0) = q
  rw [show -((-b + q) * a⁻¹ * d 0) * -((-b + q) * a⁻¹ * d 0) + -((-b + q) * a⁻¹ * d 1) * -((-b + q) * a⁻¹ * d 1)
      + -((-b + q) * a⁻¹ * d 2) * -((-b + q) * a⁻¹ * d 2) = ((q - b) * a⁻¹) ^ 2 * a by rw [hadef]; ring]
  rw [sqrt_of_nonneg (mul_nonneg (sq_nonneg _) ha.le), Real.sqrt_mul (sq_nonneg _), Real.sqrt_sq_eq_abs, abs_mul,
    abs_of_pos (inv_pos.mpr ha)]
  refine congrArg _ ?_
  have hs : Real.sqrt a ≠ 0 := (Real.sqrt_pos.mpr ha).ne'
  have ha2 : a⁻¹ * Real.sqrt a = (Real.sqrt a)⁻¹ := by
    rw [show a⁻¹ = (Real.sqrt a)⁻¹ * (Real.sqrt a)⁻¹ by rw [← mul_inv, Real.mul_self_sqrt ha.le], mul_assoc,
      inv_mul_cancel₀ hs, mul_one]
  rw [mul_assoc, ha2]

/-- THE TWO DEPTHS AGREE for every ray that starts at a finite point. -/
theorem span_eq_meet {o d : Fin 3 → EReal} (r : EReal) (ho : ∀ k, o k ≠ ⊤ ∧ o k ≠ ⊥) : span o d r = meet o d r := by
  by_cases hd : ∀ k, d k ≠ ⊤ ∧ d k ≠ ⊥
  · obtain ⟨o', ho'⟩ := real_of_finite ho
    obtain ⟨d', hd'⟩ := real_of_finite hd
    by_cases hz : ∀ k, d k = 0
    · exact span_eq_meet_zero ho hz
    · have ha : 0 < d' 0 * d' 0 + d' 1 * d' 1 + d' 2 * d' 2 := by
        push Not at hz
        obtain ⟨k, hk⟩ := hz
        have hk' : d' k ≠ 0 := fun h => hk (by rw [hd' k, h]; rfl)
        have h0 := mul_self_nonneg (d' 0)
        have h1 := mul_self_nonneg (d' 1)
        have h2 := mul_self_nonneg (d' 2)
        have hp := mul_self_pos.mpr hk'
        fin_cases k
        · exact add_pos_of_pos_of_nonneg (add_pos_of_pos_of_nonneg hp h1) h2
        · exact add_pos_of_pos_of_nonneg (add_pos_of_nonneg_of_pos h0 hp) h2
        · exact add_pos_of_nonneg_of_pos (add_nonneg h0 h1) hp
      rw [show o = fun k => (o' k : EReal) from funext ho', show d = fun k => (d' k : EReal) from funext hd']
      by_cases hr : r = ⊤ ∨ r = ⊥
      · exact span_eq_meet_far (sq_top hr) ha
      · push Not at hr
        rw [← EReal.coe_toReal hr.1 hr.2]
        exact span_eq_meet_real ha
  · push Not at hd
    obtain ⟨k, hk⟩ := hd
    have hk' : d k = ⊤ ∨ d k = ⊥ := by
      by_cases h : d k = ⊤
      · exact Or.inl h
      · exact Or.inr (hk h)
    exact span_eq_meet_top ho (dot3_self_top k (sq_top hk'))

/-! ## The kernel's depth is not negative -/

theorem rsqrt_nonneg {x : EReal} (h : 0 ≤ x) : 0 ≤ Ideal.rsqrt x := by
  induction x with
  | bot => exact absurd h (by decide)
  | top => simp
  | coe x =>
    have hx : 0 ≤ x := by exact_mod_cast h
    rw [Ideal.rsqrt_coe, if_neg (not_lt.mpr hx)]
    split
    · exact le_top
    · exact_mod_cast inv_nonneg.mpr (Real.sqrt_nonneg x)

theorem max_neg_nonneg (x : EReal) : 0 ≤ max x (-x) := by
  rcases le_total 0 x with h | h
  · exact le_max_of_le_left h
  · exact le_max_of_le_right (EReal.neg_nonneg.mpr h)

theorem span_nonneg (o d : Fin 3 → EReal) (r : EReal) : 0 ≤ span o d r :=
  mul_nonneg (max_neg_nonneg _) (rsqrt_nonneg (dot3_self_nonneg d))

/-! ## The gap grows with the square of the radius -/

/-- Roots of numbers that are not negative are in order. -/
theorem sqrt_mono {x y : EReal} (hx : 0 ≤ x) (h : x ≤ y) : Ideal.sqrt x ≤ Ideal.sqrt y := by
  induction x with
  | bot => exact absurd hx (by decide)
  | top => rw [top_le_iff.mp h]
  | coe x =>
    induction y with
    | bot => exact absurd (le_trans hx h) (by decide)
    | top => exact le_top
    | coe y =>
      have hx' : 0 ≤ x := by exact_mod_cast hx
      have h' : x ≤ y := by exact_mod_cast h
      rw [sqrt_of_nonneg hx', sqrt_of_nonneg (hx'.trans h')]
      exact_mod_cast Real.sqrt_le_sqrt h'

theorem gap_mono (o d : Fin 3 → EReal) {r s : EReal} (h : r * r ≤ s * s) : gap o d r ≤ gap o d s := by
  unfold gap
  refine EReal.sub_le_sub (sqrt_mono (le_max_right _ _) (max_le_max ?_ le_rfl)) le_rfl
  exact add_le_add (mul_le_mul_of_nonneg_left h (dot3_self_nonneg d)) le_rfl

/-- Squares are in the order of the magnitudes. -/
theorem sq_mono {r s : EReal} (h : max r (-r) ≤ max s (-s)) : r * r ≤ s * s := by
  have e : ∀ x : EReal, x * x = max x (-x) * max x (-x) := fun x => by
    rcases le_total x (-x) with hx | hx
    · rw [max_eq_right hx, neg_mul_neg]
    · rw [max_eq_left hx]
  rw [e r, e s]
  exact mul_le_mul h h (max_neg_nonneg r) (max_neg_nonneg s)

end Cert.Proof

end
-- ==== Proof.Merge.lean ====
/-
  ONE ROW OF 128 DEPTHS. The kernel's depths of one ray are `|g j| w` with `g` growing along the lanes and `w` not negative,
  so they fall and then rise (`vee`). The network of seven exchanges that pairs lane `j` with the lane at distance 64, 32,
  …, 1 sorts every such row (`merge_mono`) and only rearranges it. A sort under the comparison of the values also
  rearranges and leaves the row ascending, and there is one ascending arrangement: the two rows are equal (`merge_eq`).
-/
module

public import Idealize.ShloMosaic.Lib.SortNet.Sorts
public import Idealize.ShloMosaic.Lib.SortFacts
public import Mathlib.Data.List.FinRange
public import Idealize.ShloMosaic.PureOps.Ideal.Laws

@[expose] public section

noncomputable section

namespace Cert.Proof

open Idealize.ShloMosaic Idealize.ShloMosaic.SortNet

/-- The magnitudes of a growing row, times one number that is not negative, fall and then rise. -/
theorem vee {n : Nat} {g : Fin n → EReal} (hg : Monotone g) {w : EReal} (hw : 0 ≤ w) :
    DescAsc fun j => max (g j) (-g j) * w := by
  classical
  have hneg : ∀ j, g j ≤ 0 → max (g j) (-g j) = -g j := fun j h =>
    max_eq_right (h.trans (EReal.neg_nonneg.mpr h))
  have hpos : ∀ j, 0 ≤ g j → max (g j) (-g j) = g j := fun j h =>
    max_eq_left ((EReal.neg_le.mpr (by rw [neg_zero]; exact h)).trans h)
  have key : ∃ m : Nat, (∀ j : Fin n, j.val < m → g j ≤ 0) ∧ ∀ j : Fin n, m ≤ j.val → 0 ≤ g j := by
    by_cases h : ∃ m : Nat, ∃ hm : m < n, 0 ≤ g ⟨m, hm⟩
    · refine ⟨Nat.find h, fun j hj => ?_, fun j hj => ?_⟩
      · have := Nat.find_min h hj
        push Not at this
        exact (this j.isLt).le
      · obtain ⟨hm, h0⟩ := Nat.find_spec h
        exact h0.trans (hg (show (⟨Nat.find h, hm⟩ : Fin n) ≤ j from hj))
    · push Not at h
      exact ⟨n, fun j _ => (h j.val j.isLt).le, fun j hj => absurd j.isLt (not_lt.mpr hj)⟩
  obtain ⟨m, hlo, hhi⟩ := key
  refine ⟨m, Or.inl ⟨fun i j hij hj => ?_, fun i j hij hi => ?_⟩⟩
  · have hi : i.val < m := lt_of_le_of_lt hij hj
    show max (g j) (-g j) * w ≤ max (g i) (-g i) * w
    rw [hneg j (hlo j hj), hneg i (hlo i hi)]
    exact mul_le_mul_of_nonneg_right (EReal.neg_le_neg_iff.mpr (hg hij)) hw
  · have hj : m ≤ j.val := le_trans hi hij
    show max (g i) (-g i) * w ≤ max (g j) (-g j) * w
    rw [hpos j (hhi j hj), hpos i (hhi i hi)]
    exact mul_le_mul_of_nonneg_right (hg hij) hw

/-- One exchange of every lane with its partner at distance `2 ^ s`, the lesser entry to the earlier lane. -/
def exchange (s : Nat) (x : Fin 128 → EReal) : Fin 128 → EReal := Network.apply (n := 2 ^ 7) (stage 7 s fun _ => false) x

/-- The seven exchanges in the kernel's order. -/
def merge (x : Fin 128 → EReal) : Fin 128 → EReal :=
  exchange 0 (exchange 1 (exchange 2 (exchange 3 (exchange 4 (exchange 5 (exchange 6 x))))))

theorem merge_eq_net (x : Fin 128 → EReal) : merge x = Network.apply (n := 2 ^ 7) (mergeAscNet 7) x := by
  have h : mergeAscNet 7 = stage 7 6 (fun _ => false) ++ (stage 7 5 (fun _ => false) ++ (stage 7 4 (fun _ => false)
      ++ (stage 7 3 (fun _ => false) ++ (stage 7 2 (fun _ => false) ++ (stage 7 1 (fun _ => false)
      ++ (stage 7 0 (fun _ => false) ++ [])))))) := rfl
  rw [h, List.append_nil]
  simp only [Network.apply_append]
  rfl

/-- The exchanges sort a row that falls and then rises. -/
theorem merge_mono {x : Fin 128 → EReal} (hx : DescAsc x) : Monotone (merge x) := by
  rw [merge_eq_net]
  exact mergeAscNet_apply_monotone 7 x hx

/-- The exchanges only rearrange. -/
theorem merge_perm (x : Fin 128 → EReal) : ∃ σ : Equiv.Perm (Fin 128), merge x = x ∘ σ := by
  rw [merge_eq_net]
  exact Network.exists_perm (n := 2 ^ 7) (mergeAscNet 7) x

/-- The lane the sorted row's lane `j` comes from. -/
def source (x : Fin 128 → EReal) (j : Fin 128) : Fin 128 := sortedFrom (fun k k' => decide (x k < x k')) j

theorem sorted_mono (x : Fin 128 → EReal) : Monotone fun j => x (source x j) := by
  intro i j hij
  rcases eq_or_lt_of_le hij with rfl | h
  · exact le_refl _
  · have := sortedFrom_noInversion (fun k k' => decide (x k < x k')) (fun k k' => decide (x k < x k'))
      (fun a b hab => by
        have hab := of_decide_eq_true hab
        exact decide_eq_false (not_lt.mpr hab.le))
      (fun _ _ h => h)
      (fun a b c hab hbc => by
        have hab := of_decide_eq_false hab
        have hbc := of_decide_eq_false hbc
        exact decide_eq_false (not_lt.mpr ((not_lt.mp hbc).trans (not_lt.mp hab)))) i j h
    exact not_lt.mp (of_decide_eq_false this)

/-- A row has one ascending arrangement. -/
theorem unique_mono {x : Fin 128 → EReal} {σ τ : Equiv.Perm (Fin 128)} (hσ : Monotone (x ∘ σ)) (hτ : Monotone (x ∘ τ)) :
    x ∘ σ = x ∘ τ := by
  refine List.ofFn_injective (List.Perm.eq_of_pairwise (le := fun a b => a ≤ b) (fun a b _ _ h h' => le_antisymm h h') ?_ ?_
    ((Equiv.Perm.ofFn_comp_perm σ x).trans (Equiv.Perm.ofFn_comp_perm τ x).symm))
  · exact List.pairwise_ofFn.mpr fun i j h => hσ h.le
  · exact List.pairwise_ofFn.mpr fun i j h => hτ h.le

theorem source_bijective (x : Fin 128 → EReal) : Function.Bijective (source x) :=
  ⟨sortedFrom_injective (fun k k' => decide (x k < x k')), sortedFrom_surjective (fun k k' => decide (x k < x k'))⟩

/-- A rearrangement that is ascending is the sorted row. -/
theorem eq_sorted {x y : Fin 128 → EReal} (hy : Monotone y) (hp : ∃ σ : Equiv.Perm (Fin 128), y = x ∘ σ) (j : Fin 128) :
    y j = x (source x j) := by
  obtain ⟨σ, hσ⟩ := hp
  obtain ⟨τ, hτ⟩ : ∃ τ : Equiv.Perm (Fin 128), ∀ j, τ j = source x j :=
    ⟨Equiv.ofBijective (source x) (source_bijective x), fun j => Equiv.ofBijective_apply (source x) (source_bijective x) j⟩
  have hm : Monotone (x ∘ τ) := fun a b hab => by
    show x (τ a) ≤ x (τ b)
    rw [hτ, hτ]
    exact sorted_mono x hab
  rw [hσ] at hy ⊢
  exact (congrFun (unique_mono hy hm) j).trans (congrArg x (hτ j))

/-- THE MERGE IS THE SORT on every row that falls and then rises. -/
theorem merge_eq {x : Fin 128 → EReal} (hx : DescAsc x) (j : Fin 128) : merge x j = x (source x j) :=
  eq_sorted (merge_mono hx) (merge_perm x) j

/-- What one stage leaves at a place, with the partner named by the turn that brings it there. -/
theorem stage_turn {p s : Nat} (hs : s < p) (x : Fin (2 ^ p) → EReal) (j : Fin (2 ^ p)) :
    Network.apply (stage p s fun _ => false) x j = if j.val &&& 2 ^ s = 0
      then min (x j) (x ⟨(j.val + 2 ^ p - (2 ^ p - 2 ^ s) % 2 ^ p) % 2 ^ p, Nat.mod_lt _ (Nat.two_pow_pos p)⟩)
      else max (x j) (x ⟨(j.val + 2 ^ p - 2 ^ s % 2 ^ p) % 2 ^ p, Nat.mod_lt _ (Nat.two_pow_pos p)⟩) := by
  have hlt : 2 ^ s < 2 ^ p := Nat.pow_lt_pow_right (by decide : 1 < 2) hs
  have hp : 0 < 2 ^ s := Nat.two_pow_pos s
  have hjlt : j.val < 2 ^ p := j.isLt
  have hpl := (partner p s j).isLt
  split
  · rename_i hj
    have hv := partner_val_of_clear hs j hj
    refine ((apply_stage hs (fun _ => false) x j hj).1).trans ?_
    simp only [Bool.false_eq_true, if_false]
    refine congrArg (min (x j)) (congrArg x (Fin.ext ?_))
    show (partner p s j).val = (j.val + 2 ^ p - (2 ^ p - 2 ^ s) % 2 ^ p) % 2 ^ p
    rw [Nat.mod_eq_of_lt (show 2 ^ p - 2 ^ s < 2 ^ p by omega), show j.val + 2 ^ p - (2 ^ p - 2 ^ s) = j.val + 2 ^ s by omega,
      Nat.mod_eq_of_lt (by omega), hv]
  · rename_i hj
    obtain ⟨hle, hv⟩ := partner_val_of_set hs j hj
    have h := (apply_stage hs (fun _ => false) x (partner p s j) (partner_and_of_set hs _ hj)).2
    rw [partner_partner hs] at h
    refine h.trans ?_
    simp only [Bool.false_eq_true, if_false]
    rw [max_comm]
    refine congrArg (max (x j)) (congrArg x (Fin.ext ?_))
    show (partner p s j).val = (j.val + 2 ^ p - 2 ^ s % 2 ^ p) % 2 ^ p
    rw [Nat.mod_eq_of_lt hlt, show j.val + 2 ^ p - 2 ^ s = (j.val - 2 ^ s) + 2 ^ p by omega, Nat.add_mod_right,
      Nat.mod_eq_of_lt (by omega), hv]

/-- What one exchange leaves at a lane: the greater of the entry and the one `2 ^ s` lanes below where the lane has the bit,
    the lesser of the entry and the one `2 ^ s` lanes above where it has not; lanes are counted around the end. -/
theorem exchange_apply {s : Nat} (hs : s < 7) (x : Fin 128 → EReal) (j : Fin 128) :
    exchange s x j = if j.val &&& 2 ^ s = 0
      then min (x j) (x ⟨(j.val + 128 - (128 - 2 ^ s) % 128) % 128, Nat.mod_lt _ (by decide)⟩)
      else max (x j) (x ⟨(j.val + 128 - 2 ^ s % 128) % 128, Nat.mod_lt _ (by decide)⟩) :=
  stage_turn (p := 7) hs x j

end Cert.Proof

end
-- ==== Proof.Block.lean ====
/-
  WHAT ONE POINT OF THE GRID COMPUTES for its 4096 rays, one a column of the block of rays: per ray the coefficients of
  the quadratic (`coeffs_a` …), per ray and radius the gap (`gap_apply`), over a ray's 128 lanes the seven exchanges
  (`stage_row`, `net_row`), and from these the block of depths (`out3_apply`), the constant blocks of the side and the mask
  (`out4_apply`, `out5_apply`) and the eight rows of the first result (`out2_apply`).
-/
module

public import proofs.«01_k».proof.Proof.Depth
public import proofs.«01_k».proof.Proof.Merge
public import proofs.«01_k».proof.Proof.Gen.KernelIdeal.Frame
public import Idealize.ShloMosaic.Lib.Pointwise

@[expose] public section

noncomputable section

namespace Cert.Proof.Block

open Idealize.ShloMosaic Cert.KernelIdeal Cert.KernelIdeal.Gen

/-- A block of rays: row `k` of six holds coordinate `k` of the start (below 3) or of the direction. -/
abbrev Rays := Vec Ideal S6x4096 .f32

/-- Where ray `p` of the block starts. -/
def start (x : Rays) (p : Fin 4096) : Fin 3 → EReal := fun k => x (ix2 (⟨k.val, by omega⟩ : Fin 6) p)

/-- Ray `p`'s direction. -/
def dir (x : Rays) (p : Fin 4096) : Fin 3 → EReal := fun k => x (ix2 (⟨k.val + 3, by omega⟩ : Fin 6) p)

theorem coeffs_a (x : Rays) (p : Fin 4096) : k0_pay12 x (ix2 p (0 : Fin 8)) = dot3 (dir x p) (dir x p) := by
  pointwise [k0_pay12, k0_pay5, k0_pay6, k0_pay7, k0_pay8, k0_pay9, k0_pay10, k0_pay11]
  rfl

theorem coeffs_b (x : Rays) (p : Fin 4096) : k0_pay12 x (ix2 p (1 : Fin 8)) = dot3 (start x p) (dir x p) := by
  pointwise [k0_pay12, k0_pay5, k0_pay6, k0_pay7, k0_pay8, k0_pay9, k0_pay10, k0_pay11]
  rfl

theorem coeffs_e (x : Rays) (p : Fin 4096) : k0_pay12 x (ix2 p (2 : Fin 8))
    = dot3 (start x p) (dir x p) * dot3 (start x p) (dir x p) - dot3 (dir x p) (dir x p) * dot3 (start x p) (start x p) := by
  pointwise [k0_pay12, k0_pay5, k0_pay6, k0_pay7, k0_pay8, k0_pay9, k0_pay10, k0_pay11]
  rfl

theorem coeffs_s (x : Rays) (p : Fin 4096) : k0_pay12 x (ix2 p (3 : Fin 8)) = Ideal.rsqrt (dot3 (dir x p) (dir x p)) := by
  pointwise [k0_pay12, k0_pay5, k0_pay6, k0_pay7, k0_pay8, k0_pay9, k0_pay10, k0_pay11]
  rfl

/-! ## The depth before the exchanges -/

/-- The magnitude of the gap at ray `p` and radius `q`. -/
theorem gap_apply (x : Rays) (v : Vec Ideal S1x128 .f32) (p : Fin 4096) (q : Fin 128) :
    k0_pay14 v x (ix2 p q) = max (gap (start x p) (dir x p) (v (ix2 (0 : Fin 1) q)))
      (-gap (start x p) (dir x p) (v (ix2 (0 : Fin 1) q))) := by
  have ha := coeffs_a x p
  have hb := coeffs_b x p
  have he := coeffs_e x p
  unfold k0_pay14
  generalize k0_pay12 x = z at ha hb he
  pointwise
  rw [ha, hb, he]
  rfl

/-- The scale at ray `p`. -/
theorem scale_apply (x : Rays) (p : Fin 4096) : k0_pay13 x (ix2 p (0 : Fin 1)) = Ideal.rsqrt (dot3 (dir x p) (dir x p)) := by
  have hs := coeffs_s x p
  unfold k0_pay13
  generalize k0_pay12 x = z at hs
  pointwise
  exact hs

/-! ## The exchanges -/

/-- The lanes' numbers, as the body makes them. -/
def lanes : IVec S1x128 32 := iota .tc S1x128 32 [1] iota_S1x128_d1_w32

/-- The mask of a stage: which lanes have the bit `k`. -/
def mask (k : BitVec 32) : IVec S4096x128 1 :=
  broadcastTo S4096x128 (shapeCast S1x128 (cmpi .ne (andi lanes (broadcast S1x128 k)) (broadcast S1x128 0#32))
    shapeCasts_S1x128_S1x128) broadcasts_S1x128_S4096x128

theorem mask_apply (k : BitVec 32) (p : Fin 4096) (q : Fin 128) :
    mask k (ix2 p q) = IntOp.cmpi .ne (IntOp.andi (BitVec.ofNat 32 q.val) k) 0#32 := by
  pointwise [mask, lanes]

/-- One stage as the body writes it. -/
def stageOf (k l : BitVec 32) (x : FVec Ideal S4096x128 .f32) : FVec Ideal S4096x128 .f32 :=
  select (mask k) (maximumf x (dynamicRotate 1 k none x rotates_S4096x128_d1))
    (minimumf x (dynamicRotate 1 l none x rotates_S4096x128_d1))

/-- A rotation along the lanes, read at a lane. -/
theorem rotate_apply (k : BitVec 32) (x : FVec Ideal S4096x128 .f32) (p : Fin 4096) (q : Fin 128) :
    dynamicRotate 1 k none x rotates_S4096x128_d1 (ix2 p q)
      = x (ix2 p (⟨(q.val + 128 - k.toNat % 128) % 128, Nat.mod_lt _ (by decide)⟩ : Fin 128)) := by
  pointwise

/-- A STAGE EXCHANGES the lanes of every ray. -/
theorem stage_row {s : Nat} (hs : s < 7) (k l : BitVec 32) (hk : k.toNat = 2 ^ s) (hl : l.toNat = 128 - 2 ^ s)
    (hm : ∀ q : Fin 128, IntOp.cmpi .ne (IntOp.andi (BitVec.ofNat 32 q.val) k) 0#32
      = if q.val &&& 2 ^ s = 0 then 0#1 else 1#1)
    (x : FVec Ideal S4096x128 .f32) (p : Fin 4096) (q : Fin 128) :
    stageOf k l x (ix2 p q) = exchange s (fun q => x (ix2 p q)) q := by
  rw [exchange_apply hs]
  have h1 := rotate_apply k x p q
  have h2 := rotate_apply l x p q
  show Scalar.select (mask k (ix2 p q)) (max (x (ix2 p q)) (dynamicRotate 1 k none x rotates_S4096x128_d1 (ix2 p q)))
    (min (x (ix2 p q)) (dynamicRotate 1 l none x rotates_S4096x128_d1 (ix2 p q))) = _
  rw [h1, h2, mask_apply, hm q]
  simp only [hk, hl]
  split
  · rfl
  · rfl

/-- A block whose row of ray `p` is `x`, after a stage. -/
theorem stage_rows {s : Nat} (hs : s < 7) (k l : BitVec 32) (hk : k.toNat = 2 ^ s) (hl : l.toNat = 128 - 2 ^ s)
    (hm : ∀ q : Fin 128, IntOp.cmpi .ne (IntOp.andi (BitVec.ofNat 32 q.val) k) 0#32
      = if q.val &&& 2 ^ s = 0 then 0#1 else 1#1)
    (y : FVec Ideal S4096x128 .f32) (p : Fin 4096) (x : Fin 128 → EReal) (hy : (fun q => y (ix2 p q)) = x) :
    (fun q => stageOf k l y (ix2 p q)) = exchange s x := by
  subst hy
  exact funext fun q => stage_row hs k l hk hl hm y p q

/-- The seven stages of the body, from the block before them. -/
def netOf (x : FVec Ideal S4096x128 .f32) : FVec Ideal S4096x128 .f32 :=
  stageOf 1#32 127#32 (stageOf 2#32 126#32 (stageOf 4#32 124#32 (stageOf 8#32 120#32 (stageOf 16#32 112#32
    (stageOf 32#32 96#32 (stageOf 64#32 64#32 x))))))

/-- THE STAGES MERGE the row of every ray. -/
theorem net_row (x : FVec Ideal S4096x128 .f32) (p : Fin 4096) (q : Fin 128) :
    netOf x (ix2 p q) = merge (fun q => x (ix2 p q)) q :=
  congrFun (stage_rows (s := 0) (by decide) 1#32 127#32 rfl rfl (by decide) _ p _
    (stage_rows (s := 1) (by decide) 2#32 126#32 rfl rfl (by decide) _ p _
    (stage_rows (s := 2) (by decide) 4#32 124#32 rfl rfl (by decide) _ p _
    (stage_rows (s := 3) (by decide) 8#32 120#32 rfl rfl (by decide) _ p _
    (stage_rows (s := 4) (by decide) 16#32 112#32 rfl rfl (by decide) _ p _
    (stage_rows (s := 5) (by decide) 32#32 96#32 rfl rfl (by decide) _ p _
    (stage_rows (s := 6) (by decide) 64#32 64#32 rfl rfl (by decide) x p _ rfl))))))) q

/-- The block of depths before the stages. -/
def depths (s : FVec Ideal S4096x1 .f32) (g : FVec Ideal S4096x128 .f32) : FVec Ideal S4096x128 .f32 :=
  mulf g (broadcastTo S4096x128 s broadcasts_S4096x1_S4096x128)

theorem depths_apply (s : FVec Ideal S4096x1 .f32) (g : FVec Ideal S4096x128 .f32) (p : Fin 4096) (q : Fin 128) :
    depths s g (ix2 p q) = g (ix2 p q) * s (ix2 p (0 : Fin 1)) := by
  pointwise [depths]

/-- What the body stores as the depths is the stages on that block. -/
theorem pay_eq_net (s : FVec Ideal S4096x1 .f32) (g : FVec Ideal S4096x128 .f32) :
    k0_pay19 lanes (k0_pay16 lanes s g) (k0_pay17 lanes s g) (k0_pay18 lanes) = netOf (depths s g) := rfl

/-! ## The four results of a block -/

theorem zero_off : (![0, 0] : Fin 2 → Nat) = fun _ => 0 := funext fun a => match a with | ⟨0, _⟩ => rfl | ⟨1, _⟩ => rfl

/-- The row of depths the merge of ray `p` starts from. -/
def spans (x : Rays) (v : Vec Ideal S1x128 .f32) (p : Fin 4096) (q : Fin 128) : EReal :=
  span (start x p) (dir x p) (v (ix2 (0 : Fin 1) q))

/-- THE DEPTHS of a block: each ray's row, merged. -/
theorem out3_apply (x : Rays) (v : Vec Ideal S1x128 .f32) (p : Fin 4096) (q : Fin 128) :
    out0_3 x v (ix2 p q) = merge (spans x v p) q := by
  unfold out0_3
  rw [View.canon_unit_zero zero_off]
  unfold k0_pay25 k0_pay26 k0_pay27
  rw [View.ld_unit_zero zero_off, View.ld_unit_zero zero_off]
  refine (congrFun (pay_eq_net (k0_pay13 x) (k0_pay14 v x)) (ix2 p q)).trans ?_
  rw [net_row]
  refine congrArg (fun r => merge r q) (funext fun q => ?_)
  rw [depths_apply, gap_apply, scale_apply]
  rfl

/-- THE INDICES of a block are ones. -/
theorem out4_apply (x : Rays) (v : Vec Ideal S1x128 .f32) (j : S4096x128.Idx) : out0_4 x v j = 1#32 := by
  unfold out0_4
  rw [View.canon_unit_zero zero_off]
  rfl

/-- THE MASK of a block is off. -/
theorem out5_apply (x : Rays) (v : Vec Ideal S1x128 .f32) (j : S4096x128.Idx) : out0_5 x v j = 0#32 := by
  unfold out0_5
  rw [View.canon_unit_zero zero_off]
  rfl

/-- The entry of lane 1 of the radii, as the body loads it. -/
theorem second_apply (v : Vec Ideal S1x128 .f32) : k0_pay4 (View.ld v r0_1) = v (ix2 (0 : Fin 1) (1 : Fin 128)) := by
  unfold k0_pay4
  rw [extractAt_eq]
  exact congrArg v (funext fun a => Fin.ext (match a with | ⟨0, _⟩ => rfl | ⟨1, _⟩ => rfl))

/-- Row `c` of the first result's block, for a radius `r`: the start over the radius, the direction, the radius. -/
def valsRow (x : Rays) (r : EReal) (c : Fin 8) (p : Fin 4096) : EReal :=
  if h : c.val < 3 then x (ix2 (⟨c.val, by omega⟩ : Fin 6) p) * Ideal.div 1 r
  else if h : c.val < 6 then x (ix2 (⟨c.val, h⟩ : Fin 6) p) else r

theorem one_f32 : Ideal.ofBits .f32 0x3F800000#32 = 1 := by
  simp [Ideal.ofBits, Ideal.ieee, -EReal.coe_mul]
  norm_num

/-- THE EIGHT ROWS of the first result's block. -/
theorem out2_apply (x : Rays) (v : Vec Ideal S1x128 .f32) (c : Fin 8) (p : Fin 4096) :
    out0_2 x v (ix2 c p) = valsRow x (v (ix2 (0 : Fin 1) (1 : Fin 128))) c p := by
  unfold out0_2
  rw [View.canon_unit_zero zero_off, second_apply, View.ld_unit_zero zero_off]
  generalize v (ix2 (0 : Fin 1) (1 : Fin 128)) = r
  fin_cases c
  all_goals
    pointwise [k0_pay1, k0_pay5, k0_pay6, k0_pay7, k0_pay8, k0_pay9, k0_pay10, k0_pay11, k0_pay20, k0_pay21, k0_pay22,
      k0_pay23, k0_pay24]
    simp [valsRow, one_f32]

end Cert.Proof.Block

end
-- ==== Proof.Arrays.lean ====
/-
  WHAT THE KERNEL'S ARRAYS HOLD AFTER THE GRID: a block of rays and the row of radii read at an index of the arguments
  (`rays_block`, `radii_block`), and the four result arrays as one function of the ray (`vals_array`, `depth_array`,
  `index_array`, `mask_array`) — point `t` of the grid has rays `4096 t … 4096 t + 4095`.
-/
module

public import proofs.«01_k».proof.Proof.Block
public import Idealize.ShloMosaic.Lib.Pipeline.ValueKit

@[expose] public section

set_option maxRecDepth 16384

noncomputable section

namespace Cert.Proof.Arrays

open Idealize.ShloMosaic Idealize.ShloMosaic.Pipeline Cert.KernelIdeal Cert.KernelIdeal.Gen

variable (m : (ℓ : Loc nD τ sig) → Buf (Elt Ideal) ℓ) (c : Dev nD)

/-- The rays the run starts from. -/
abbrev rays : Vec Ideal S65536x6 .f32 := m ((c.tc : Thread nD τ).loc main_arg0)

/-- The radii the run starts from. -/
abbrev radii : Vec Ideal S128 .f32 := m ((c.tc : Thread nD τ).loc main_arg1)

/-- The windows' index maps at a point. -/
theorem index (t : Fin grid0.N) : win0_0.index t = ![0, t.val] ∧ win0_1.index t = ![0, 0] ∧ win0_2.index t = ![0, t.val]
    ∧ win0_3.index t = ![t.val, 0] ∧ win0_4.index t = ![t.val, 0] ∧ win0_5.index t = ![t.val, 0] :=
  (by decide +kernel : ∀ t : Fin grid0.N, win0_0.index t = ![0, t.val] ∧ win0_1.index t = ![0, 0]
    ∧ win0_2.index t = ![0, t.val] ∧ win0_3.index t = ![t.val, 0] ∧ win0_4.index t = ![t.val, 0]
    ∧ win0_5.index t = ![t.val, 0]) t

theorem entry_rays : V m c main_call0_v1 = transpose S6x65536 [1, 0] (rays m c) transposes_S65536x6_S6x65536_1_0 := by
  show StableHlo.after hostOps0 (fun b => m (c, b)) (Proc.devRef .tc main_call0_v1) = _
  after_results
  rfl

theorem entry_radii : V m c main_call0_v0 = shapeCast S1x128 (radii m c) shapeCasts_S128_S1x128 := by
  show StableHlo.after hostOps0 (fun b => m (c, b)) (Proc.devRef .tc main_call0_v0) = _
  after_results
  rfl

theorem ray_lt (t : Fin grid0.N) (p : Fin 4096) : t.val * 4096 + p.val < 65536 := by
  have h : grid0.N = 16 := by decide
  omega

/-- The ray in column `p` of point `t`'s block. -/
def ray (t : Fin grid0.N) (p : Fin 4096) : Fin 65536 := ⟨t.val * 4096 + p.val, ray_lt t p⟩

theorem rays_block (t : Fin grid0.N) (k : Fin 6) (p : Fin 4096) :
    iblk m c 0 t (ix2 k p) = rays m c (ix2 (ray t p) k) := by
  have e := (index t).1
  have h : V m c main_call0_v1 (ix2 k (ray t p)) = rays m c (ix2 (ray t p) k) := by
    rw [entry_rays]
    pointwise
  refine Eq.trans ?_ h
  blk_ext [iblk, ray, e]

theorem radii_block (t : Fin grid0.N) (q : Fin 128) :
    iblk m c 1 t (ix2 (0 : Fin 1) q) = radii m c (ix1 q) := by
  have e := (index t).2.1
  have h : V m c main_call0_v0 (ix2 (0 : Fin 1) q) = radii m c (ix1 q) := by
    rw [entry_radii]
    pointwise
  refine Eq.trans ?_ h
  blk_ext [iblk, e]

/-- Where ray `r` starts. -/
def start (r : Fin 65536) : Fin 3 → EReal := fun k => rays m c (ix2 r (⟨k.val, by omega⟩ : Fin 6))

/-- Ray `r`'s direction. -/
def dir (r : Fin 65536) : Fin 3 → EReal := fun k => rays m c (ix2 r (⟨k.val + 3, by omega⟩ : Fin 6))

/-- The depths of ray `r` before the merge. -/
def spans (r : Fin 65536) (q : Fin 128) : EReal := span (start m c r) (dir m c r) (radii m c (ix1 q))

/-- The depths. -/
def depths : Vec Ideal S65536x128 .f32 := fun i => merge (spans m c (i 0)) (i 1)

/-- Entry `k` of ray `r`'s eight values: the start over radius 1, the direction, radius 1. -/
def val (r : Fin 65536) (k : Fin 8) : EReal :=
  if h : k.val < 3 then rays m c (ix2 r (⟨k.val, by omega⟩ : Fin 6)) * Ideal.div 1 (radii m c (ix1 (1 : Fin 128)))
  else if h : k.val < 6 then rays m c (ix2 r (⟨k.val, h⟩ : Fin 6)) else radii m c (ix1 (1 : Fin 128))

/-- The values, a ray a column. -/
def vals : Vec Ideal S8x65536 .f32 := fun i => val m c (i 1) (i 0)

theorem spans_block (t : Fin grid0.N) (p : Fin 4096) :
    Block.spans (iblk m c 0 t) (iblk m c 1 t) p = spans m c (ray t p) := by
  funext q
  unfold Block.spans spans
  rw [radii_block]
  congr 1
  · funext k
    exact rays_block m c t _ p
  · funext k
    exact rays_block m c t _ p

theorem vals_block (t : Fin grid0.N) (k : Fin 8) (p : Fin 4096) :
    Block.valsRow (iblk m c 0 t) (iblk m c 1 t (ix2 (0 : Fin 1) (1 : Fin 128))) k p = val m c (ray t p) k := by
  unfold Block.valsRow val
  rw [radii_block]
  simp only [rays_block]

/-- THE DEPTHS after the grid. -/
theorem depth_array : (dats m 0 c).arrAt 3 cfg0.N = depths m c := by
  refine (dats m 0 c).arrAt_eq_of_covers 3 _ (by decide +kernel) fun t hf y => ?_
  blk_simp
  rw [after0_3]
  obtain ⟨p, q, rfl⟩ : ∃ (p : Fin 4096) (q : Fin 128), y = ix2 p q := ⟨y 0, y 1, eq_ix2 y⟩
  refine (Block.out3_apply _ _ p q).trans ?_
  rw [spans_block]
  have e := (index t).2.2.2.1
  show depths m c (ix2 (ray t p) q) = _
  blk_ext [ray, e]

/-- THE VALUES after the grid. -/
theorem vals_array : (dats m 0 c).arrAt 2 cfg0.N = vals m c := by
  refine (dats m 0 c).arrAt_eq_of_covers 2 _ (by decide +kernel) fun t hf y => ?_
  blk_simp
  rw [after0_2]
  obtain ⟨k, p, rfl⟩ : ∃ (k : Fin 8) (p : Fin 4096), y = ix2 k p := ⟨y 0, y 1, eq_ix2 y⟩
  refine (Block.out2_apply _ _ k p).trans ?_
  rw [vals_block]
  have e := (index t).2.2.1
  show vals m c (ix2 k (ray t p)) = _
  blk_ext [ray, e]

/-- THE INDICES after the grid. -/
theorem index_array : (dats m 0 c).arrAt 4 cfg0.N = fun _ => (1#32 : BitVec 32) := by
  refine (dats m 0 c).arrAt_eq_of_covers 4 _ (by decide +kernel) fun t hf y => ?_
  blk_simp
  rw [after0_4]
  exact Block.out4_apply _ _ _

/-- THE MASK after the grid. -/
theorem mask_array : (dats m 0 c).arrAt 5 cfg0.N = fun _ => (0#32 : BitVec 32) := by
  refine (dats m 0 c).arrAt_eq_of_covers 5 _ (by decide +kernel) fun t hf y => ?_
  blk_simp
  rw [after0_5]
  exact Block.out5_apply _ _ _

/-! ## The host's operations after the grid, and the run -/

/-- The first result: the eight values' first seven, repeated over the radii. -/
def first : Vec Ideal S65536x128x7 .f32 := fun i => val m c (i 0) (⟨(i 2).val, Nat.lt_succ_of_lt (i 2).isLt⟩ : Fin 8)

theorem tail_first : afterTail₀ cfgs (dats m) 0 (V0 m) [hostOps1] c main_v0_0 = first m c := by
  show StableHlo.after hostOps1 (withArrays spec0 c (V0 m c) fun w => (dats m 0 c).arrAt w cfg0.N)
    (Proc.devRef .tc main_v0_0) = _
  have h : withArrays spec0 c (V0 m c) (fun w => (dats m 0 c).arrAt w cfg0.N) (Proc.devRef .tc main_call0_v2_0)
      = vals m c :=
    (withArrays_arr spec0 winFacts0.arr_inj c (V0 m c) (fun w => (dats m 0 c).arrAt w cfg0.N) 2).trans (vals_array m c)
  generalize withArrays spec0 c (V0 m c) (fun w => (dats m 0 c).arrAt w cfg0.N) = W at h ⊢
  have e : StableHlo.after hostOps1 W (Proc.devRef .tc main_v0_0)
      = broadcastInDim S65536x128x7 ![0, 1, 2] bcast_S65536x1x7_S65536x128x7_0_1_2
          (broadcastInDim S65536x1x7 ![0, 2] bcast_S65536x7_S65536x1x7_0_2
            (extractStridedSlice S65536x7 ![0, 0]
              (transpose S65536x8 [1, 0] (vals m c) transposes_S8x65536_S65536x8_1_0) slices_S65536x8_S65536x7_0_0)) := by
    rw [← h]
    after_results
    rfl
  rw [e]
  funext i
  obtain ⟨r, s, k, rfl⟩ : ∃ (r : Fin 65536) (s : Fin 128) (k : Fin 7), i = ix3 r s k := ⟨i 0, i 1, i 2, eq_ix3 i⟩
  pointwise
  rfl

theorem tail_mask : afterTail₀ cfgs (dats m) 0 (V0 m) [hostOps1] c main_v0_3 = fun _ => (0#1 : BitVec 1) := by
  show StableHlo.after hostOps1 (withArrays spec0 c (V0 m c) fun w => (dats m 0 c).arrAt w cfg0.N)
    (Proc.devRef .tc main_v0_3) = _
  have h : withArrays spec0 c (V0 m c) (fun w => (dats m 0 c).arrAt w cfg0.N) (Proc.devRef .tc main_call0_v2_3)
      = fun _ => (0#32 : BitVec 32) :=
    (withArrays_arr spec0 winFacts0.arr_inj c (V0 m c) (fun w => (dats m 0 c).arrAt w cfg0.N) 5).trans (mask_array m c)
  generalize withArrays spec0 c (V0 m c) (fun w => (dats m 0 c).arrAt w cfg0.N) = W at h ⊢
  have e : StableHlo.after hostOps1 W (Proc.devRef .tc main_v0_3)
      = cmpi .ne (W (Proc.devRef .tc main_call0_v2_3) : IVec S65536x128 32)
          (broadcastInDim S65536x128 ![] bcast_S_S65536x128 (constantI S_ 32 0#32)) := by
    after_results
    rfl
  rw [e, h]
  rfl

/-- THE KERNEL'S RUN: the four results as functions of the arguments, the arguments unchanged. -/
theorem run (ρ : Dev nD → PrngReg) : θ_run (defs (F := Ideal)) (onTc (τ := τ) (main (F := Ideal))) ⟨m, fun _ => 0, ρ⟩ fun r => ∀ c : Dev nD,
      r.2.mem ((c.tc : Thread nD τ).loc main_v0_0) = first m c
      ∧ r.2.mem ((c.tc : Thread nD τ).loc main_v0_1) = depths m c
      ∧ r.2.mem ((c.tc : Thread nD τ).loc main_v0_2) = (fun _ => (1#32 : BitVec 32))
      ∧ r.2.mem ((c.tc : Thread nD τ).loc main_v0_3) = (fun _ => (0#1 : BitVec 1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v0_0 (mem_restRefs_of main_v0_0 (by decide) (by decide))).trans (tail_first m c),
     ((h c).1 3).trans (depth_array m c),
     ((h c).1 4).trans (index_array m c),
     ((h c).2 main_v0_3 (mem_restRefs_of main_v0_3 (by decide) (by decide))).trans (tail_mask m c),
     ((h c).2 main_arg0 (mem_restRefs_of main_arg0 (by decide) (by decide))).trans (W_main_arg0 m (dats m) c),
     ((h c).2 main_arg1 (mem_restRefs_of main_arg1 (by decide) (by decide))).trans (W_main_arg1 m (dats m) c)⟩)
    (run_main m ρ)

end Cert.Proof.Arrays
-- ==== Proof.RefDepth.lean ====
/-
  THE REFERENCE'S DEPTHS: entry `(r, q)` of its array of distances is `meet` of ray `r`'s start and direction and of
  radius `q` (`depth_apply`).
-/
module

public import proofs.«01_k».proof.Proof.Depth
public import proofs.«01_k».proof.Proof.Gen.ReferenceIdeal.Read
public import Idealize.ShloMosaic.Lib.Pointwise

@[expose] public section

noncomputable section

namespace Cert.Proof.Ref

open Idealize.ShloMosaic Cert.ReferenceIdeal Cert.ReferenceIdeal.Gen Cert.ReferenceIdeal.Read

variable (x : Vec Ideal S65536x6 .f32) (v : Vec Ideal S128 .f32)

/-- Where ray `r` starts. -/
def start (r : Fin 65536) : Fin 3 → EReal := fun k => x (ix2 r (⟨k.val, by omega⟩ : Fin 6))

/-- Ray `r`'s direction. -/
def dir (r : Fin 65536) : Fin 3 → EReal := fun k => x (ix2 r (⟨k.val + 3, by omega⟩ : Fin 6))

theorem start_apply (r : Fin 65536) (q : Fin 128) (k : Fin 3) : val_main_v2 (F := Ideal) x (ix3 r q k) = start x r k := by
  pointwise [val_main_v2, val_main_v1, val_main_v0]
  rfl

theorem dir_apply (r : Fin 65536) (q : Fin 128) (k : Fin 3) : val_main_v5 (F := Ideal) x (ix3 r q k) = dir x r k := by
  pointwise [val_main_v5, val_main_v4, val_main_v3]
  exact congrArg (fun j => x (ix2 r j)) (Fin.ext (Nat.add_comm _ _))

theorem radius_apply (r : Fin 65536) (q : Fin 128) : val_main_v7 (F := Ideal) v (ix2 r q) = v (ix1 q) := by
  pointwise [val_main_v7, val_main_v6]

/-- A sum of three products, from a zero word, is the dot product. -/
theorem sum_dot (f g : Fin 3 → EReal) : Ideal.ofBits .f32 0#32 + ∑ k : Fin 3, f k * g k = dot3 f g := by
  rw [Ideal.ofBits_zero_f32, zero_add, Fin.sum_univ_three]
  rfl

/-- The index the sums over a ray's coordinates read. -/
theorem idx3 (r : Fin 65536) (q : Fin 128) (k : Fin 3) : idx_main_v9 (ix2 r q) k = ix3 r q k := by
  funext a
  match a with
  | ⟨0, _⟩ => rfl
  | ⟨1, _⟩ => rfl
  | ⟨2, _⟩ => rfl

theorem dd_apply (r : Fin 65536) (q : Fin 128) : val_main_v9 (F := Ideal) x (ix2 r q) = dot3 (dir x r) (dir x r) := by
  rw [val_main_v9_apply, ← sum_dot]
  refine congrArg (_ + ·) (Finset.sum_congr rfl fun k _ => ?_)
  rw [idx3, val_main_v8_apply, dir_apply]
  rfl

theorem od_apply (r : Fin 65536) (q : Fin 128) : val_main_v11 (F := Ideal) x (ix2 r q) = dot3 (start x r) (dir x r) := by
  rw [val_main_v11_apply, ← sum_dot]
  refine congrArg (_ + ·) (Finset.sum_congr rfl fun k _ => ?_)
  rw [show idx_main_v11 (ix2 r q) k = ix3 r q k from idx3 r q k, val_main_v10_apply, start_apply, dir_apply]
  rfl

theorem oo_apply (r : Fin 65536) (q : Fin 128) : val_main_v13 (F := Ideal) x (ix2 r q) = dot3 (start x r) (start x r) := by
  rw [val_main_v13_apply, ← sum_dot]
  refine congrArg (_ + ·) (Finset.sum_congr rfl fun k _ => ?_)
  rw [show idx_main_v13 (ix2 r q) k = ix3 r q k from idx3 r q k, val_main_v12_apply, start_apply]
  rfl

/-- THE FAR ROOT of a ray and a radius. -/
theorem root_apply (r : Fin 65536) (q : Fin 128) :
    val_main_v24 (F := Ideal) x v (ix2 r q) = root (start x r) (dir x r) (v (ix1 q)) := by
  simp only [val_main_v24_apply, val_main_v23_apply, val_main_v22_apply, val_main_v21_apply, val_main_v20_apply,
    val_main_v19_apply, val_main_cst_2_apply, val_main_v18_apply, val_main_v17_apply, val_main_v16_apply,
    val_main_v15_apply, val_main_v14_apply, dd_apply, od_apply, oo_apply, radius_apply]
  show Ideal.div (-dot3 (start x r) (dir x r) + Ideal.sqrt (max _ (Ideal.ofBits .f32 0#32))) _ = _
  rw [Ideal.ofBits_zero_f32]
  rfl

theorem away_apply (r : Fin 65536) (q : Fin 128) (k : Fin 3) :
    val_main_v29 (F := Ideal) x v (ix3 r q k) = away (start x r) (dir x r) (v (ix1 q)) k := by
  have h : val_main_v26 (F := Ideal) x v (ix3 r q k) = val_main_v24 (F := Ideal) x v (ix2 r q) := by
    pointwise [val_main_v26, val_main_v25]
  rw [val_main_v29_apply, val_main_v28_apply, val_main_v27_apply, h, root_apply, start_apply, dir_apply]
  rfl

/-- THE DEPTH of a ray and a radius. -/
theorem depth_apply (r : Fin 65536) (q : Fin 128) :
    val_main_v30 (F := Ideal) x v (ix2 r q) = meet (start x r) (dir x r) (v (ix1 q)) := by
  have h : val_main_call0_v1 (F := Ideal) x v (ix2 r q)
      = dot3 (away (start x r) (dir x r) (v (ix1 q))) (away (start x r) (dir x r) (v (ix1 q))) := by
    rw [val_main_call0_v1_apply, ← sum_dot]
    refine congrArg (_ + ·) (Finset.sum_congr rfl fun k _ => ?_)
    rw [show idx_main_call0_v1 (ix2 r q) k = ix3 r q k from idx3 r q k, val_main_call0_v0_apply, away_apply]
    rfl
  rw [val_main_v30_apply, h]
  rfl

end Cert.Proof.Ref
-- ==== Proof.Take.lean ====
/-
  TAKING ALONG THE LAST AXIS: what the reference's `take_along_axis` over a 65536 × 128 array leaves at `(r, q)` when its
  index array holds there the number of a column — the wrap of a negative index does nothing (`wrap_apply`), the test of
  the bounds passes (`bounds_apply`) and the gather reads that column (`gather_apply`); together, `take_apply`.
-/
module

public import proofs.«01_k».proof.Proof.Gen.ReferenceIdeal.Read
public import Idealize.ShloMosaic.Lib.Pointwise
public import Idealize.ShloMosaic.Lib.ReduceAll

@[expose] public section

noncomputable section

namespace Cert.Proof.Take

open Idealize.ShloMosaic Cert.ReferenceIdeal Cert.ReferenceIdeal.Gen

/-- A column's number is no negative word, so the wrap keeps it. -/
theorem wrap_apply (k : Fin 128) :
    Scalar.select (IntOp.cmpi .slt (BitVec.ofNat 32 k.val) 0#32) (IntOp.addi (BitVec.ofNat 32 k.val) 128#32)
      (BitVec.ofNat 32 k.val) = BitVec.ofNat 32 k.val := by
  revert k
  decide

/-- A column's number is between 0 and 127. -/
theorem bounds_apply (k : Fin 128) :
    IntOp.andi (IntOp.cmpi .sge (BitVec.ofNat 32 k.val) 0#32) (IntOp.cmpi .sle (BitVec.ofNat 32 k.val) 127#32) = 1#1 := by
  revert k
  decide

/-- A column's number, read signed and clamped, is itself. -/
theorem clamp_apply (k : Fin 128) : min (BitVec.ofNat 32 k.val).toInt.toNat 127 = k.val := by
  revert k
  decide

/-- The gather the reference takes entries along a row with. -/
abbrev along : GatherDims S65536x128 S65536x128x1 S65536x128 := gather_S65536x128_S65536x128x1_S65536x128_n_1_0_0_1_2_11

theorem row_coord (w : IVec S65536x128x1 32) (r : Fin 65536) (q : Fin 128) :
    (along.operandIdx (ix2 r q) w 0).val = r.val := by
  show along.start _ _ 0 + along.batchCoord _ 0 + along.offCoord _ 0 = r.val
  rw [along.start_batching _ _ 0 (List.mem_singleton.mpr rfl), along.offCoord_eq_zero _ 0 (by decide)]
  unfold GatherDims.batchCoord
  rw [dif_pos (show (0 : Fin 2) ∈ along.operandBatchingDims from List.mem_singleton.mpr rfl), Nat.zero_add, Nat.add_zero]
  rfl

theorem start_index (r : Fin 65536) (q : Fin 128) (n : Fin along.startIndexMap.length) :
    along.siIdx (ix2 r q) n = ix3 r q (0 : Fin 1) := by
  funext b
  refine Fin.ext ?_
  match b with
  | ⟨0, _⟩ => rfl
  | ⟨1, _⟩ => rfl
  | ⟨2, _⟩ => exact Nat.lt_one_iff.mp n.isLt

theorem col_coord (w : IVec S65536x128x1 32) (r : Fin 65536) (q k : Fin 128)
    (hw : w (ix3 r q (0 : Fin 1)) = BitVec.ofNat 32 k.val) : (along.operandIdx (ix2 r q) w 1).val = k.val := by
  show along.start _ _ 1 + along.batchCoord _ 1 + along.offCoord _ 1 = k.val
  rw [along.batchCoord_eq_zero _ 1 (by decide), along.offCoord_eq_zero _ 1 (by decide)]
  unfold GatherDims.start
  rw [dif_pos (show (1 : Fin 2) ∈ along.startIndexMap from List.mem_singleton.mpr rfl), start_index, hw]
  exact clamp_apply k

/-- THE GATHER reads, at `(r, q)`, the column the index array holds there. -/
theorem gather_apply (y : Vec Ideal S65536x128 .f32) (w : IVec S65536x128x1 32) (r : Fin 65536) (q k : Fin 128)
    (hw : w (ix3 r q (0 : Fin 1)) = BitVec.ofNat 32 k.val) : Host.gather along y w (ix2 r q) = y (ix2 r k) := by
  unfold Host.gather
  refine congrArg y (funext fun a => Fin.ext ?_)
  match a with
  | ⟨0, _⟩ => exact row_coord w r q
  | ⟨1, _⟩ => exact col_coord w r q k hw

/-- AN ENTRY TAKEN: with column numbers in the index array everywhere, the entry of that column. -/
theorem take_apply (y : Vec Ideal S65536x128 .f32) (w z l : IVec S65536x128x1 32) (init : IVec S_ 1)
    (other : Vec Ideal S65536x128 .f32) (hz : ∀ i, z i = 0#32) (hl : ∀ i, l i = 127#32)
    (hi : init (Shape.Idx.first h_S_) = 1#1) (col : Fin 65536 → Fin 128 → Fin 128)
    (hw : ∀ r q, w (ix3 r q (0 : Fin 1)) = BitVec.ofNat 32 (col r q).val) (r : Fin 65536) (q : Fin 128) :
    select (Host.reduce IntOp.andi (andi (cmpi .sge w z) (cmpi .sle w l)) init
      reducesTo_S65536x128x1_S65536x128_d2 h_S_) (Host.gather along y w) other (ix2 r q) = y (ix2 r (col r q)) := by
  have hin : ∀ i, andi (cmpi .sge w z) (cmpi .sle w l) i = 1#1 := fun i => by
    obtain ⟨r, q, e, rfl⟩ : ∃ (r : Fin 65536) (q : Fin 128) (e : Fin 1), i = ix3 r q e := ⟨i 0, i 1, i 2, eq_ix3 i⟩
    obtain rfl : e = 0 := Subsingleton.elim _ _
    show IntOp.andi (IntOp.cmpi .sge (w _) (z _)) (IntOp.cmpi .sle (w _) (l _)) = 1#1
    rw [hw, hz, hl]
    exact bounds_apply _
  show Scalar.select (Host.reduce IntOp.andi (andi (cmpi .sge w z) (cmpi .sle w l)) init
      reducesTo_S65536x128x1_S65536x128_d2 h_S_ (ix2 r q)) (Host.gather along y w (ix2 r q)) (other (ix2 r q)) = _
  rw [Host.reduce_andi_one _ init _ _ _ hi hin, gather_apply y w r q (col r q) (hw r q)]
  rfl

end Cert.Proof.Take
-- ==== Proof.RefSort.lean ====
/-
  THE REFERENCE'S SORT: its comparator asks whether one depth is below another (`before_apply`), so the sort of the column
  numbers by the depths leaves, at `(r, q)`, the lane that the sorted row of ray `r` takes its lane `q` from
  (`order_apply`), and the depths taken along it are the sorted row (`sorted_apply`).
-/
module

public import proofs.«01_k».proof.Proof.RefDepth
public import proofs.«01_k».proof.Proof.Merge
public import proofs.«01_k».proof.Proof.Take

@[expose] public section

noncomputable section

namespace Cert.Proof.Ref

open Idealize.ShloMosaic Cert.ReferenceIdeal Cert.ReferenceIdeal.Gen Cert.ReferenceIdeal.Read

/-- THE COMPARATOR: whether the left depth is below the right one. -/
theorem before_apply (a b : EReal) (k l : BitVec 32) :
    (comparator_f32_i32_d1 (F := Ideal) (a, k) (b, l) == 1#1) = decide (a < b) := by
  have key : ∀ e : EReal, Scalar.select (Ideal.cmp .une e e) (Ideal.ofBits .f32 0x7FC00000#32)
      (Scalar.select (Ideal.cmp .oeq e (Ideal.ofBits .f32 0x00000000#32)) (Ideal.ofBits .f32 0x00000000#32) e) = e := by
    intro e
    rw [Ideal.ofBits_zero_f32]
    by_cases h : e = 0 <;> simp [Scalar.select, Ideal.cmp, h]
  have h : comparator_f32_i32_d1 (F := Ideal) (a, k) (b, l) = Ideal.cmp .olt a b :=
    congrArg₂ (Ideal.cmp .olt) (key a) (key b)
  rw [h]
  by_cases h : a < b <;> simp [Ideal.cmp, h]

variable (x : Vec Ideal S65536x6 .f32) (v : Vec Ideal S128 .f32)

/-- The depths of ray `r`. -/
def meets (r : Fin 65536) (q : Fin 128) : EReal := meet (start x r) (dir x r) (v (ix1 q))

/-- Lane `k` of the row through `(r, q)`. -/
def lane (r : Fin 65536) (q k : Fin 128) : S65536x128.Idx := Shape.Idx.along (s := S65536x128) (ix2 r q) 1 k

theorem lane_eq (r : Fin 65536) (q k : Fin 128) : lane r q k = ix2 r k := by
  funext a
  match a with
  | ⟨0, _⟩ => rfl
  | ⟨1, _⟩ => rfl

/-- THE ORDER of a ray's lanes. -/
theorem order_apply (r : Fin 65536) (q : Fin 128) :
    val_main_v31 (F := Ideal) x v (ix2 r q) = BitVec.ofNat 32 (source (meets x v r) q).val := by
  have hs : ∀ (y : S65536x128.Idx → EReal) (z : S65536x128.Idx → BitVec 32),
      (Host.sort2 S65536x128 1 (comparator_f32_i32_d1 (F := Ideal)) y z).2 (ix2 r q)
        = z (lane r q (sortedFrom (fun k k' : Fin 128 =>
            comparator_f32_i32_d1 (F := Ideal)
              (y (lane r q k), z (lane r q k))
              (y (lane r q k'), z (lane r q k'))
            == 1#1) q)) := by
    intro y z
    unfold Host.sort2
    rw [dif_pos (by decide)]
    rfl
  unfold val_main_v31
  rw [hs]
  simp only [lane_eq, before_apply, depth_apply]
  rw [val_main_call1_v0_apply]
  rfl

theorem lane_apply (r : Fin 65536) (q : Fin 128) :
    val_main_call2_v5 (F := Ideal) x v (ix3 r q (0 : Fin 1)) = BitVec.ofNat 32 (source (meets x v r) q).val := by
  have h : val_main_call2_v5 (F := Ideal) x v (ix3 r q (0 : Fin 1)) = val_main_call2_v4 (F := Ideal) x v (ix2 r q) := by
    pointwise [val_main_call2_v5]
  rw [h, val_main_call2_v4_apply, val_main_call2_v1_apply, val_main_call2_v3_apply, order_apply]
  exact Take.wrap_apply _

/-- THE DEPTHS IN ORDER. -/
theorem sorted_apply (r : Fin 65536) (q : Fin 128) :
    val_main_v32 (F := Ideal) x v (ix2 r q) = meets x v r (source (meets x v r) q) := by
  refine (Take.take_apply (val_main_v30 (F := Ideal) x v) (val_main_call2_v5 (F := Ideal) x v) _ _ _ _ (fun i => ?_)
    (fun i => ?_) rfl (fun r q => source (meets x v r) q) (lane_apply x v) r q).trans (depth_apply x v r _)
  · rfl
  · rfl

end Cert.Proof.Ref
-- ==== Proof.RefResults.lean ====
/-
  WHAT THE REFERENCE RETURNS when no depth is below zero: the side is `1` everywhere (`side_apply`) and the mask is off
  (`mask_apply`), so the radius taken along the side is the radius at position one (`radius_one`), and the first result
  at ray `r`, lane `s` holds the start over that radius, the direction, and the radius (`first_apply`).
-/
module

public import proofs.«01_k».proof.Proof.RefSort

@[expose] public section

noncomputable section

namespace Cert.Proof.Ref

open Idealize.ShloMosaic Cert.ReferenceIdeal Cert.ReferenceIdeal.Gen Cert.ReferenceIdeal.Read

variable (x : Vec Ideal S65536x6 .f32) (v : Vec Ideal S128 .f32) (hd : ∀ r q, 0 ≤ meets x v r q)

include hd

/-- THE SIDE: a depth is never below zero. -/
theorem side_apply (r : Fin 65536) (q : Fin 128) : val_main_v38 (F := Ideal) x v (ix2 r q) = 1#32 := by
  rw [val_main_v38_apply, val_main_v37_apply, val_main_v36_apply, sorted_apply, val_main_v35_apply, val_main_cst_3_apply,
    Ideal.cmpf_def, val_main_call4_v1_apply, val_main_c_4_apply]
  have h : Ideal.cmp .olt (meets x v r (source (meets x v r) q)) (FloatOps.ofBits (F := Ideal) .f32 0x00000000#32) = 0#1 := by
    show Ideal.cmp .olt _ (Ideal.ofBits .f32 0x00000000#32) = _
    rw [Ideal.ofBits_zero_f32]
    simp [Ideal.cmp, not_lt.mpr (hd r _)]
  rw [h]
  rfl

/-- Where the side is minus one: nowhere. -/
theorem back_apply (r : Fin 65536) (q : Fin 128) : val_main_v40 (F := Ideal) x v (ix2 r q) = 0#1 := by
  rw [val_main_v40_apply, side_apply x v hd, val_main_v39_apply, val_main_c_5_apply]
  rfl

/-- THE MASK. -/
theorem mask_apply (r : Fin 65536) (q : Fin 128) : val_main_v60 (F := Ideal) x v (ix2 r q) = 0#1 := by
  rw [val_main_v60_apply, side_apply x v hd, val_main_v59_apply, val_main_c_7_apply]
  rfl

/-- The position the radius is taken from. -/
theorem place_apply (r : Fin 65536) (q : Fin 128) :
    val_main_call6_v5 (F := Ideal) x v (ix3 r q (0 : Fin 1)) = BitVec.ofNat 32 (1 : Fin 128).val := by
  have h : val_main_call6_v5 (F := Ideal) x v (ix3 r q (0 : Fin 1)) = val_main_call6_v4 (F := Ideal) x v (ix2 r q) := by
    pointwise [val_main_call6_v5]
  rw [h, val_main_call6_v4_apply, val_main_call6_v1_apply, val_main_call6_v3_apply, val_main_v41_apply, back_apply x v hd,
    side_apply x v hd]
  exact Take.wrap_apply 1

/-- THE RADIUS at position one. -/
theorem radius_one (r : Fin 65536) (q : Fin 128) :
    val_main_v44 (F := Ideal) x v (ix2 r q) = v (ix1 (1 : Fin 128)) := by
  have h : val_main_v43 (F := Ideal) v (ix2 r (1 : Fin 128)) = v (ix1 (1 : Fin 128)) := by
    pointwise [val_main_v43, val_main_v42]
  refine (Take.take_apply (val_main_v43 (F := Ideal) v) (val_main_call6_v5 (F := Ideal) x v) _ _ _ _ (fun i => ?_)
    (fun i => ?_) rfl (fun _ _ => 1) (place_apply x v hd) r q).trans h
  · rfl
  · rfl

theorem scaled_apply (r : Fin 65536) (s : Fin 128) (k : Fin 3) :
    val_main_v52 (F := Ideal) x v (ix3 r s k) = Ideal.div (x (ix2 r ⟨k.val, by omega⟩)) (v (ix1 (1 : Fin 128))) := by
  have hb : val_main_call7_v0 (F := Ideal) x v (ix3 r s k) = val_main_v40 (F := Ideal) x v (ix2 r s) := by
    pointwise [val_main_call7_v0, val_main_v51]
  have hv : val_main_v49 (F := Ideal) x v (ix3 r s k) = val_main_v44 (F := Ideal) x v (ix2 r s) := by
    pointwise [val_main_v49, val_main_v47]
  have ho : val_main_v48 (F := Ideal) x (ix3 r s k) = x (ix2 r ⟨k.val, by omega⟩) := by
    pointwise [val_main_v48, val_main_v46, val_main_v45]
  rw [val_main_v52_apply, hb, back_apply x v hd, val_main_v50_apply, hv, ho, radius_one x v hd]
  rfl

/-- THE FIRST RESULT. -/
theorem first_apply (r : Fin 65536) (s : Fin 128) (k : Fin 7) :
    val_main_v58 (F := Ideal) x v (ix3 r s k) =
      if h : k.val < 3 then Ideal.div (x (ix2 r ⟨k.val, by omega⟩)) (v (ix1 (1 : Fin 128)))
      else if h : k.val < 6 then x (ix2 r ⟨k.val, by omega⟩) else v (ix1 (1 : Fin 128)) := by
  have hs : ∀ k : Fin 3, val_main_v52 (F := Ideal) x v (ix3 r s k)
      = Ideal.div (x (ix2 r ⟨k.val, by omega⟩)) (v (ix1 (1 : Fin 128))) := scaled_apply x v hd r s
  have hr := radius_one x v hd r s
  have hv : val_main_v57 (F := Ideal) x v (ix3 r s (0 : Fin 1)) = v (ix1 (1 : Fin 128)) := by
    rw [← hr]
    pointwise [val_main_v57]
  have hu : ∀ k : Fin 3, val_main_v55 (F := Ideal) x (ix3 r s k) = x (ix2 r ⟨3 + k.val, by omega⟩) := by
    intro k
    pointwise [val_main_v55, val_main_v54, val_main_v53]
  fin_cases k
  · exact Eq.trans (by pointwise [val_main_v58, val_main_v56]) (hs 0)
  · exact Eq.trans (by pointwise [val_main_v58, val_main_v56]) (hs 1)
  · exact Eq.trans (by pointwise [val_main_v58, val_main_v56]) (hs 2)
  · exact Eq.trans (by pointwise [val_main_v58, val_main_v56]) (hu 0)
  · exact Eq.trans (by pointwise [val_main_v58, val_main_v56]) (hu 1)
  · exact Eq.trans (by pointwise [val_main_v58, val_main_v56]) (hu 2)
  · exact Eq.trans (by pointwise [val_main_v58, val_main_v56]) hv

end Cert.Proof.Ref
-- ==== Proof.Pre.lean ====
/-
  WHAT THE PRECONDITION SAYS in plain terms: a ray's start is finite in each coordinate (`start_finite`), the radii grow
  in absolute value (`radii_mono`), and the radius at position one is not zero (`radius_ne_zero`).
-/
module

public import proofs.«01_k».proof.Defs
public import Idealize.ShloMosaic.Lib.Pointwise
public import Mathlib.Order.Fin.Basic
public import Mathlib.Order.Interval.Finset.Fin

@[expose] public section

noncomputable section

namespace Cert.Proof.Pre

open Idealize.ShloMosaic Cert.Pre_rays_start_finite_radii_spread

/-- The shape relations of the precondition. -/
theorem facts : Facts := ⟨by decide, by decide, by decide, by decide, by decide, by decide⟩

instance : Facts := facts

theorem inf_f32 : Ideal.ofBits .f32 0x7F800000#32 = ⊤ := by
  simp [Ideal.ofBits, Ideal.ieee]

/-- A comparison that holds. -/
theorem of_ofBool {b : Bool} (h : BitVec.ofBool b = 1#1) : b = true := by
  cases b
  · exact absurd h (by decide)
  · rfl

variable (x : Vec Ideal S65536x6 .f32) (v : Vec Ideal S128 .f32)

theorem start_apply (r : Fin 65536) (k : Fin 3) : (fn (F := Ideal) x v).1 (ix2 r k)
    = Ideal.cmp .olt (max (x (ix2 r ⟨k.val, by omega⟩)) (-x (ix2 r ⟨k.val, by omega⟩))) (Ideal.ofBits .f32 0x7F800000#32) := by
  unfold fn
  pointwise
  rfl

theorem step_apply (k : Fin 127) : (fn (F := Ideal) x v).2.1 (ix1 k)
    = Ideal.cmp .ole (max (v (ix1 (⟨k.val, by omega⟩ : Fin 128))) (-v (ix1 (⟨k.val, by omega⟩ : Fin 128))))
        (max (v (ix1 (⟨1 + k.val, by omega⟩ : Fin 128))) (-v (ix1 (⟨1 + k.val, by omega⟩ : Fin 128)))) := by
  unfold fn
  pointwise
  rfl

theorem one_apply : (fn (F := Ideal) x v).2.2 (ix1 (0 : Fin 1))
    = Ideal.cmp .une (v (ix1 (1 : Fin 128))) (Ideal.ofBits .f32 0x00000000#32) := by
  unfold fn
  pointwise

variable (h : (fn (F := Ideal) x v).1 = (fun _ => 1#1) ∧ (fn (F := Ideal) x v).2.1 = (fun _ => 1#1)
  ∧ (fn (F := Ideal) x v).2.2 = (fun _ => 1#1))

include h

/-- A START IS FINITE. -/
theorem start_finite (r : Fin 65536) (k : Fin 3) :
    x (ix2 r ⟨k.val, by omega⟩) ≠ ⊤ ∧ x (ix2 r ⟨k.val, by omega⟩) ≠ ⊥ := by
  have e := (start_apply x v r k).symm.trans (congrFun h.1 _)
  rw [inf_f32] at e
  have l := of_decide_eq_true (of_ofBool e)
  constructor
  · intro ht
    rw [ht] at l
    simp at l
  · intro hb
    rw [hb] at l
    simp at l

/-- THE RADII GROW in absolute value. -/
theorem radii_mono : Monotone fun q : Fin 128 => max (v (ix1 q)) (-v (ix1 q)) := by
  refine Fin.monotone_iff_le_succ.mpr fun k => ?_
  have e := (step_apply x v k).symm.trans (congrFun h.2.1 _)
  have l := of_decide_eq_true (of_ofBool e)
  have hk : (⟨1 + k.val, by omega⟩ : Fin 128) = k.succ := Fin.ext (Nat.add_comm _ _)
  rw [hk] at l
  exact l

/-- THE RADIUS at position one is not zero. -/
theorem radius_ne_zero : v (ix1 (1 : Fin 128)) ≠ 0 := by
  have e := (one_apply x v).symm.trans (congrFun h.2.2 _)
  rw [Ideal.ofBits_zero_f32] at e
  exact of_decide_eq_true (of_ofBool e)

end Cert.Proof.Pre
-- ==== Proof.Equation.lean ====
/-
  THE EQUATION. Over arguments the precondition holds of, each of the kernel's four results is the reference's:
  the depths (`depths_eq`: the two formulas for a depth agree, and the merge of a row that falls and then rises is its sort),
  the first result (`first_eq`: a product by `1 / r` is the quotient by `r`), the side and the mask (a depth is not negative).
-/
module

public import proofs.«01_k».proof.Proof.Arrays
public import proofs.«01_k».proof.Proof.RefResults
public import proofs.«01_k».proof.Proof.Pre

@[expose] public section

noncomputable section

namespace Cert.Proof.Equation

open Idealize.ShloMosaic Cert.ReferenceIdeal.Read

/-- A product by `1 / r` is the quotient by `r`, when `r` is not zero. -/
theorem mul_one_div (o : EReal) {r : EReal} (h : r ≠ 0) : o * Ideal.div 1 r = Ideal.div o r := by
  unfold Ideal.div
  rw [if_neg h, if_neg h, one_mul]

/-- The spans of a ray fall and then rise when the radii grow in absolute value. -/
theorem spans_vee (o d : Fin 3 → EReal) {v : Fin 128 → EReal} (hv : Monotone fun q => max (v q) (-v q)) :
    SortNet.DescAsc fun q => span o d (v q) :=
  vee (g := fun q => gap o d (v q)) (fun _ _ hab => gap_mono o d (sq_mono (hv hab))) (rsqrt_nonneg (dot3_self_nonneg d))

variable (m : (ℓ : Loc Cert.KernelIdeal.nD Cert.KernelIdeal.τ Cert.KernelIdeal.sig) → Buf (Elt Ideal) ℓ)
  (c : Dev Cert.KernelIdeal.nD)

variable (h : (Pre_rays_start_finite_radii_spread.fn (F := Ideal) (Arrays.rays m c) (Arrays.radii m c)).1 = (fun _ => 1#1)
  ∧ (Pre_rays_start_finite_radii_spread.fn (F := Ideal) (Arrays.rays m c) (Arrays.radii m c)).2.1 = (fun _ => 1#1)
  ∧ (Pre_rays_start_finite_radii_spread.fn (F := Ideal) (Arrays.rays m c) (Arrays.radii m c)).2.2 = (fun _ => 1#1))

include h

/-- The two depths of a ray at a radius agree. -/
theorem spans_eq (r : Fin 65536) : Arrays.spans m c r = Ref.meets (Arrays.rays m c) (Arrays.radii m c) r := by
  funext q
  exact span_eq_meet _ fun k => Pre.start_finite (Arrays.rays m c) (Arrays.radii m c) h r k

/-- No depth is below zero. -/
theorem meets_nonneg (r : Fin 65536) (q : Fin 128) : 0 ≤ Ref.meets (Arrays.rays m c) (Arrays.radii m c) r q := by
  rw [← spans_eq m c h r]
  exact span_nonneg _ _ _

theorem depth_eq (r : Fin 65536) (q : Fin 128) :
    val_main_v32 (F := Ideal) (Arrays.rays m c) (Arrays.radii m c) (ix2 r q) = merge (Arrays.spans m c r) q := by
  have hv : SortNet.DescAsc (Arrays.spans m c r) :=
    spans_vee _ _ (v := fun q => Arrays.radii m c (ix1 q)) (Pre.radii_mono (Arrays.rays m c) (Arrays.radii m c) h)
  have e := Ref.sorted_apply (Arrays.rays m c) (Arrays.radii m c) r q
  rw [← spans_eq m c h r] at e
  exact e.trans (merge_eq hv q).symm

theorem depths_eq : val_main_v32 (F := Ideal) (Arrays.rays m c) (Arrays.radii m c) = Arrays.depths m c := by
  funext i
  exact (congrArg _ (eq_ix2 i)).trans (depth_eq m c h (i 0) (i 1))

theorem first_eq : val_main_v58 (F := Ideal) (Arrays.rays m c) (Arrays.radii m c) = Arrays.first m c := by
  funext i
  have e := Ref.first_apply (Arrays.rays m c) (Arrays.radii m c) (meets_nonneg m c h) (i 0) (i 1) (i 2)
  refine (congrArg _ (eq_ix3 i)).trans (e.trans ?_)
  unfold Arrays.first Arrays.val
  simp only [mul_one_div _ (Pre.radius_ne_zero (Arrays.rays m c) (Arrays.radii m c) h)]

theorem side_eq : val_main_v38 (F := Ideal) (Arrays.rays m c) (Arrays.radii m c) = fun _ => 1#32 := by
  funext i
  exact (congrArg _ (eq_ix2 i)).trans (Ref.side_apply (Arrays.rays m c) (Arrays.radii m c) (meets_nonneg m c h) (i 0) (i 1))

theorem mask_eq : val_main_v60 (F := Ideal) (Arrays.rays m c) (Arrays.radii m c) = fun _ => 0#1 := by
  funext i
  exact (congrArg _ (eq_ix2 i)).trans (Ref.mask_apply (Arrays.rays m c) (Arrays.radii m c) (meets_nonneg m c h) (i 0) (i 1))

end Cert.Proof.Equation
-- ==== Proof.lean ====
/-
  THE CLAIM. The kernel, its idealization and the reference run, leave their arguments as they were and every semaphore
  counter at zero; and over arguments the precondition holds of, the idealized kernel's four results are the reference's.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Equation
public import Idealize.ShloMosaic.Lib.Quiescent

@[expose] public section

noncomputable section

namespace Cert.Proof

open Idealize.ShloMosaic Idealize.SL.Sem

theorem frame_kernel : Cert.quiescent_Kernel := fun m ρ _ => Cert.Kernel.Gen.frame m ρ

theorem frame_ideal : Cert.quiescent_KernelIdeal := fun m ρ _ => Cert.KernelIdeal.Gen.frame m ρ

/-- The reference declares no semaphore, so its counters are at zero at its end. -/
theorem frame_reference : Cert.quiescent_ReferenceIdeal := fun m ρ _ =>
  (θ_run Cert.ReferenceIdeal.defs _ _).mono
    (fun r h => ⟨fun c => (h c).2.2.2.2, sem_eq_zero_of_no_sems (by decide) r.2⟩)
    (Cert.ReferenceIdeal.Value.run (F := Ideal) m ρ)

/-- THE REFERENCE'S RUN: its four results as its stages of the arguments, the arguments unchanged. -/
theorem reference_run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ fun r => ∀ c : Dev Cert.ReferenceIdeal.nD,
        let a0 := m ((c.tc : Thread Cert.ReferenceIdeal.nD Cert.ReferenceIdeal.τ).loc Cert.ReferenceIdeal.main_arg0)
        let a1 := m ((c.tc : Thread Cert.ReferenceIdeal.nD Cert.ReferenceIdeal.τ).loc Cert.ReferenceIdeal.main_arg1)
        r.2.mem ((c.tc : Thread Cert.ReferenceIdeal.nD Cert.ReferenceIdeal.τ).loc Cert.ReferenceIdeal.main_v58)
            = Cert.ReferenceIdeal.Read.val_main_v58 (F := Ideal) a0 a1
        ∧ r.2.mem ((c.tc : Thread Cert.ReferenceIdeal.nD Cert.ReferenceIdeal.τ).loc Cert.ReferenceIdeal.main_v32)
            = Cert.ReferenceIdeal.Read.val_main_v32 (F := Ideal) a0 a1
        ∧ r.2.mem ((c.tc : Thread Cert.ReferenceIdeal.nD Cert.ReferenceIdeal.τ).loc Cert.ReferenceIdeal.main_v38)
            = Cert.ReferenceIdeal.Read.val_main_v38 (F := Ideal) a0 a1
        ∧ r.2.mem ((c.tc : Thread Cert.ReferenceIdeal.nD Cert.ReferenceIdeal.τ).loc Cert.ReferenceIdeal.main_v60)
            = Cert.ReferenceIdeal.Read.val_main_v60 (F := Ideal) a0 a1
        ∧ r.2.mem ((c.tc : Thread Cert.ReferenceIdeal.nD Cert.ReferenceIdeal.τ).loc Cert.ReferenceIdeal.main_arg0) = a0
        ∧ r.2.mem ((c.tc : Thread Cert.ReferenceIdeal.nD Cert.ReferenceIdeal.τ).loc Cert.ReferenceIdeal.main_arg1) = a1 :=
  (θ_run Cert.ReferenceIdeal.defs _ _).mono
    (fun _ h c =>
      ⟨(h c).1.trans (Cert.ReferenceIdeal.Read.val_main_v58_eq (F := Ideal) (StableHlo.launchContents m c)),
        (h c).2.1.trans (Cert.ReferenceIdeal.Read.val_main_v32_eq (F := Ideal) (StableHlo.launchContents m c)),
        (h c).2.2.1.trans (Cert.ReferenceIdeal.Read.val_main_v38_eq (F := Ideal) (StableHlo.launchContents m c)),
        (h c).2.2.2.1.trans (Cert.ReferenceIdeal.Read.val_main_v60_eq (F := Ideal) (StableHlo.launchContents m c)),
        (h c).2.2.2.2.1, (h c).2.2.2.2.2⟩)
    (Cert.ReferenceIdeal.Value.run (F := Ideal) m ρ)

/-- THE VALUES: the four results agree. -/
theorem algebraic : Cert.algebraic_KernelIdeal_ReferenceIdeal_pre_rays_start_finite_radii_spread
    (hPre_rays_start_finite_radii_spread := Pre.facts) := by
  intro m ρ m' ρ' hp ha
  refine ⟨_, _, _, _, Arrays.run m ρ, ?_⟩
  refine (θ_run Cert.ReferenceIdeal.defs _ _).mono (fun _ h c => ?_) (reference_run m' ρ')
  have e := h c
  rw [(ha c).1, (ha c).2] at e
  exact ⟨e.1.trans (Equation.first_eq m c (hp c)), e.2.1.trans (Equation.depths_eq m c (hp c)),
    e.2.2.1.trans (Equation.side_eq m c (hp c)), e.2.2.2.1.trans (Equation.mask_eq m c (hp c)),
    e.2.2.2.2.1.trans (ha c).1.symm, e.2.2.2.2.2.trans (ha c).2.symm⟩

theorem claim : Cert.Claim :=
  ⟨Cert.Kernel.Gen.facts, Cert.KernelIdeal.Gen.facts, Cert.ReferenceIdeal.Gen.facts, Pre.facts,
    frame_kernel, frame_ideal, fun m ρ _ => frame_ideal m ρ trivial, frame_reference,
    fun m ρ _ => frame_reference m ρ trivial, trivial, algebraic⟩

end Cert.Proof

end
